-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 4, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = Layout.blockN ⟨2, ![512, 1024]⟩ ⟨2, ![1024, 1024]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S_ : Shape := ⟨0, ![]⟩
abbrev S2x1024x4 : Shape := ⟨3, ![2, 1024, 4]⟩
abbrev S1 : Shape := ⟨1, ![1]⟩
abbrev S1x1024x4 : Shape := ⟨3, ![1, 1024, 4]⟩
abbrev S1024x8 : Shape := ⟨2, ![1024, 8]⟩
abbrev S512x8 : Shape := ⟨2, ![512, 8]⟩
abbrev S512x2 : Shape := ⟨2, ![512, 2]⟩
abbrev S512 : Shape := ⟨1, ![512]⟩
abbrev S512x1 : Shape := ⟨2, ![512, 1]⟩
abbrev S2x512x1024 : Shape := ⟨3, ![2, 512, 1024]⟩
abbrev S2x512x2 : Shape := ⟨3, ![2, 512, 2]⟩
abbrev S3 : Shape := ⟨1, ![3]⟩
abbrev S1x512x1024 : Shape := ⟨3, ![1, 512, 1024]⟩
abbrev S1x512x2 : Shape := ⟨3, ![1, 512, 2]⟩
abbrev S1024x2 : Shape := ⟨2, ![1024, 2]⟩
abbrev S4 : Shape := ⟨1, ![4]⟩
abbrev S1024x2x1 : Shape := ⟨3, ![1024, 2, 1]⟩
abbrev S1x1x4 : Shape := ⟨3, ![1, 1, 4]⟩
abbrev S1024x2x4 : Shape := ⟨3, ![1024, 2, 4]⟩
abbrev S1024x1024 : Shape := ⟨2, ![1024, 1024]⟩
abbrev S1x1024x2048 : Shape := ⟨3, ![1, 1024, 2048]⟩
abbrev S1x2048x1024 : Shape := ⟨3, ![1, 2048, 1024]⟩
abbrev S1024x2048 : Shape := ⟨2, ![1024, 2048]⟩
abbrev S2048x1024 : Shape := ⟨2, ![2048, 1024]⟩
abbrev S1024 : Shape := ⟨1, ![1024]⟩
abbrev S1024x1 : Shape := ⟨2, ![1024, 1]⟩

abbrev nBuf : Space → Nat
  | .hbm => 63
  | .vmem => 18
  | .smem => 0
  | _ => 0

abbrev bufTy : (tb : Table) → Fin (tcTables nBuf tb) → BufTy
  | .hbm, ⟨0, _⟩ => ⟨S512x1024, .bf16⟩
  | .hbm, ⟨1, _⟩ => ⟨S1024x4, .bf16⟩
  | .hbm, ⟨2, _⟩ => ⟨S4x1024x2048, .bf16⟩
  | .hbm, ⟨3, _⟩ => ⟨S4x2048x1024, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S2x1024x4, .bf16⟩
  | .hbm, ⟨11, _⟩ => ⟨S1x1024x4, .bf16⟩
  | .hbm, ⟨12, _⟩ => ⟨S1024x4, .bf16⟩
  | .hbm, ⟨13, _⟩ => ⟨S1x1024x4, .bf16⟩
  | .hbm, ⟨14, _⟩ => ⟨S1024x4, .bf16⟩
  | .hbm, ⟨15, _⟩ => ⟨S1024x8, .bf16⟩
  | .hbm, ⟨16, _⟩ => ⟨S512x8, .f32⟩
  | .hbm, ⟨17, _⟩ => ⟨S512x8, .bf16⟩
  | .hbm, ⟨18, _⟩ => ⟨S512x2, .bf16⟩
  | .hbm, ⟨19, _⟩ => ⟨S512x2, .i32⟩
  | .hbm, ⟨20, _⟩ => ⟨S_, .bf16⟩
  | .hbm, ⟨21, _⟩ => ⟨S512, .bf16⟩
  | .hbm, ⟨22, _⟩ => ⟨S_, .bf16⟩
  | .hbm, ⟨23, _⟩ => ⟨S512, .bf16⟩
  | .hbm, ⟨24, _⟩ => ⟨S512, .bf16⟩
  | .hbm, ⟨25, _⟩ => ⟨S512x1, .bf16⟩
  | .hbm, ⟨26, _⟩ => ⟨S512x2, .bf16⟩
  | .hbm, ⟨27, _⟩ => ⟨S512x2, .bf16⟩
  | .hbm, ⟨28, _⟩ => ⟨S512x2, .bf16⟩
  | .hbm, ⟨29, _⟩ => ⟨S512x2, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S512x1, .bf16⟩
  | .hbm, ⟨34, _⟩ => ⟨S512x2, .bf16⟩
  | .hbm, ⟨35, _⟩ => ⟨S512x2, .bf16⟩
  | .hbm, ⟨36, _⟩ => ⟨S512x2, .f32⟩
  | .hbm, ⟨37, _⟩ => ⟨S2x512x1024, .bf16⟩
  | .hbm, ⟨38, _⟩ => ⟨S2x512x2, .i32⟩
  | .hbm, ⟨39, _⟩ => ⟨S2x512x2, .f32⟩
  | .hbm, ⟨40, _⟩ => ⟨S1024x2, .i32⟩
  | .hbm, ⟨41, _⟩ => ⟨S1024x2, .f32⟩
  | .hbm, ⟨42, _⟩ => ⟨S_, .i32⟩
  | .hbm, ⟨43, _⟩ => ⟨S_, .i32⟩
  | .hbm, ⟨44, _⟩ => ⟨S4, .i32⟩
  | .hbm, ⟨45, _⟩ => ⟨S4, .i32⟩
  | .hbm, ⟨46, _⟩ => ⟨S4, .i32⟩
  | .hbm, ⟨47, _⟩ => ⟨S1024x2x1, .f32⟩
  | .hbm, ⟨48, _⟩ => ⟨S1024x2x1, .i32⟩
  | .hbm, ⟨49, _⟩ => ⟨S1x1x4, .i32⟩
  | .hbm, ⟨50, _⟩ => ⟨S1024x2x4, .i32⟩
  | .hbm, ⟨51, _⟩ => ⟨S1024x2x4, .i32⟩
  | .hbm, ⟨52, _⟩ => ⟨S1024x2x4, .i1⟩
  | .hbm, ⟨53, _⟩ => ⟨S1024x2x4, .f32⟩
  | .hbm, ⟨54, _⟩ => ⟨S1024x2x4, .f32⟩
  | .hbm, ⟨55, _⟩ => ⟨S1024x2x4, .f32⟩
  | .hbm, ⟨56, _⟩ => ⟨S_, .f32⟩
  | .hbm, ⟨57, _⟩ => ⟨S1024x4, .f32⟩
  | .hbm, ⟨58, _⟩ => ⟨S1024x1024, .bf16⟩
  | .hbm, ⟨59, _⟩ => ⟨S1024x1024, .f32⟩
  | .hbm, ⟨60, _⟩ => ⟨S1024x1024, .bf16⟩
  | .hbm, ⟨61, _⟩ => ⟨S2x512x1024, .bf16⟩
  | .hbm, ⟨62, _⟩ => ⟨S512x1024, .f32⟩
  | .local _ .vmem, ⟨0, _⟩ => ⟨S1024x4, .bf16⟩
  | .local _ .vmem, ⟨1, _⟩ => ⟨S2x1024x4, .bf16⟩
  | .local _ .vmem, ⟨2, _⟩ => ⟨S512x1024, .bf16⟩
  | .local _ .vmem, ⟨3, _⟩ => ⟨S512x2, .i32⟩
  | .local _ .vmem, ⟨4, _⟩ => ⟨S512x2, .f32⟩
  | .local _ .vmem, ⟨5, _⟩ => ⟨S2x512x1024, .bf16⟩
  | .local _ .vmem, ⟨6, _⟩ => ⟨S2x512x2, .i32⟩
  | .local _ .vmem, ⟨7, _⟩ => ⟨S2x512x2, .f32⟩
  | .local _ .vmem, ⟨8, _⟩ => ⟨S1024x1024, .bf16⟩
  | .local _ .vmem, ⟨9, _⟩ => ⟨S1x1024x2048, .bf16⟩
  | .local _ .vmem, ⟨10, _⟩ => ⟨S1x1024x2048, .bf16⟩
  | .local _ .vmem, ⟨11, _⟩ => ⟨S1x2048x1024, .bf16⟩
  | .local _ .vmem, ⟨12, _⟩ => ⟨S1x2048x1024, .bf16⟩
  | .local _ .vmem, ⟨13, _⟩ => ⟨S1024x4, .f32⟩
  | .local _ .vmem, ⟨14, _⟩ => ⟨S1024x1024, .f32⟩
  | .local _ .vmem, ⟨15, _⟩ => ⟨S2x512x1024, .bf16⟩
  | .local _ .vmem, ⟨16, _⟩ => ⟨S512x1024, .f32⟩
  | .local _ .vmem, ⟨17, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 3 → Bool
  | ⟨0, _⟩ => false
  | ⟨1, _⟩ => false
  | ⟨2, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 3 27 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_cst : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg4_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_scratch0 : Ref sig .tc := ⟨.vmem, 17, rfl⟩
abbrev cc0_sem0_0 : DmaSem sig := 0
abbrev cc0_sem1_0 : DmaSem sig := 1
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc3_sem0_0 : DmaSem sig := 23
abbrev cc3_sem1_0 : DmaSem sig := 24
abbrev barrier0 : Sem sig := 0
abbrev barrier1 : Sem sig := 1
abbrev barrier2 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_4 : BitVec 32 := 16#32
  let v11 : BitVec 32 := Scalar.muli v3 c16_i32_4
  let v12 : BitVec 32 := Scalar.addi c0_i32 v11
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_5 : BitVec 32 := 4#32
  let v13 : BitVec 32 := Scalar.muli v6 c4_i32_5
  let v14 : BitVec 32 := Scalar.addi v12 v13
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_6 : BitVec 32 := 1#32
  let v15 : BitVec 32 := Scalar.muli v9 c1_i32_6
  let v16 : BitVec 32 := Scalar.addi v14 v15
  v16.toNat
def k0_off1 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : Index := Scalar.indexCast v2
  let c0_9 : Index := 0#32
  let c0_10 : Index := 0#32
  ![v20.toNat, 0, 0]
def k0_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let c0_i32_18 : BitVec 32 := 0#32
  ![v2.toNat, 0, 0]
def k0_dev2 (d0 : Dev nD) : Nat :=
  let c0_i32_14 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_13 : BitVec 32 := 16#32
  let v22 : BitVec 32 := Scalar.muli v3 c16_i32_13
  let v23 : BitVec 32 := Scalar.addi c0_i32_14 v22
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_15 : BitVec 32 := 4#32
  let v24 : BitVec 32 := Scalar.muli v6 c4_i32_15
  let v25 : BitVec 32 := Scalar.addi v23 v24
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_16 : BitVec 32 := 1#32
  let v26 : BitVec 32 := Scalar.muli v9 c1_i32_16
  let v27 : BitVec 32 := Scalar.addi v25 v26
  v27.toNat
abbrev stage0_0 : Fin 1 → Memref sig .tc .vmem S1024x4 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := .none

def k1_dev1 (d0 : Dev nD) : Nat :=
  let c0_i32 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_4 : BitVec 32 := 16#32
  let v11 : BitVec 32 := Scalar.muli v3 c16_i32_4
  let v12 : BitVec 32 := Scalar.addi c0_i32 v11
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_5 : BitVec 32 := 4#32
  let v13 : BitVec 32 := Scalar.muli v6 c4_i32_5
  let v14 : BitVec 32 := Scalar.addi v12 v13
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_6 : BitVec 32 := 1#32
  let v15 : BitVec 32 := Scalar.muli v9 c1_i32_6
  let v16 : BitVec 32 := Scalar.addi v14 v15
  v16.toNat
def k1_off1 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : Index := Scalar.indexCast v2
  let c0_9 : Index := 0#32
  let c0_10 : Index := 0#32
  ![v20.toNat, 0, 0]
def k1_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_17 : BitVec 32 := 0#32
  let c0_i32_18 : BitVec 32 := 0#32
  ![v2.toNat, 0, 0]
def k1_dev2 (d0 : Dev nD) : Nat :=
  let c0_i32_14 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_13 : BitVec 32 := 16#32
  let v22 : BitVec 32 := Scalar.muli v3 c16_i32_13
  let v23 : BitVec 32 := Scalar.addi c0_i32_14 v22
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_15 : BitVec 32 := 4#32
  let v24 : BitVec 32 := Scalar.muli v6 c4_i32_15
  let v25 : BitVec 32 := Scalar.addi v23 v24
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_16 : BitVec 32 := 1#32
  let v26 : BitVec 32 := Scalar.muli v9 c1_i32_16
  let v27 : BitVec 32 := Scalar.addi v25 v26
  v27.toNat
def k1_off3 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v37 : Index := Scalar.indexCast v2
  let c0_21 : Index := 0#32
  let c0_22 : Index := 0#32
  ![v37.toNat, 0, 0]
def k1_off4 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_29 : BitVec 32 := 0#32
  let c0_i32_30 : BitVec 32 := 0#32
  ![v2.toNat, 0, 0]
def k1_dev3 (d0 : Dev nD) : Nat :=
  let c0_i32_26 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_25 : BitVec 32 := 16#32
  let v39 : BitVec 32 := Scalar.muli v3 c16_i32_25
  let v40 : BitVec 32 := Scalar.addi c0_i32_26 v39
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_27 : BitVec 32 := 4#32
  let v41 : BitVec 32 := Scalar.muli v6 c4_i32_27
  let v42 : BitVec 32 := Scalar.addi v40 v41
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_28 : BitVec 32 := 1#32
  let v43 : BitVec 32 := Scalar.muli v9 c1_i32_28
  let v44 : BitVec 32 := Scalar.addi v42 v43
  v44.toNat
def k1_dev4 (d0 : Dev nD) : Nat :=
  let c0_i32_38 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_37 : BitVec 32 := 16#32
  let v56 : BitVec 32 := Scalar.muli v3 c16_i32_37
  let v57 : BitVec 32 := Scalar.addi c0_i32_38 v56
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_39 : BitVec 32 := 4#32
  let v58 : BitVec 32 := Scalar.muli v6 c4_i32_39
  let v59 : BitVec 32 := Scalar.addi v57 v58
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_40 : BitVec 32 := 1#32
  let v60 : BitVec 32 := Scalar.muli v9 c1_i32_40
  let v61 : BitVec 32 := Scalar.addi v59 v60
  v61.toNat
abbrev stage1_0 : Fin 1 → Memref sig .tc .vmem S512x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x2 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2x512x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2x512x2 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2x512x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![4], ![false]⟩

def k2_cond1 (i : grid2.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_12 : BitVec 32 := 0#32
  let v25 : BitVec 1 := Scalar.cmpi .ne v24 c0_i32_12
  v25

def k2_cond2 (i : grid2.Coords) : BitVec 1 :=
  let arg0 : BitVec 32 := BitVec.ofNat 32 (i 0).val
  let c0_i32_13 : BitVec 32 := 0#32
  let v26 : BitVec 1 := Scalar.cmpi .sgt arg0 c0_i32_13
  let v27 : BitVec 32 := Scalar.extui v26
  let c0_i32_14 : BitVec 32 := 0#32
  let v28 : BitVec 1 := Scalar.cmpi .ne v27 c0_i32_14
  v28

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := .none

def k3_dev1 (d0 : Dev nD) : Nat :=
  let c0_i32 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_4 : BitVec 32 := 16#32
  let v11 : BitVec 32 := Scalar.muli v3 c16_i32_4
  let v12 : BitVec 32 := Scalar.addi c0_i32 v11
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_5 : BitVec 32 := 4#32
  let v13 : BitVec 32 := Scalar.muli v6 c4_i32_5
  let v14 : BitVec 32 := Scalar.addi v12 v13
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_6 : BitVec 32 := 1#32
  let v15 : BitVec 32 := Scalar.muli v9 c1_i32_6
  let v16 : BitVec 32 := Scalar.addi v14 v15
  v16.toNat
def k3_off1 (d0 : Dev nD) : Fin 3 → Nat :=
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c0_i32_13 : BitVec 32 := 0#32
  let c0_i32_14 : BitVec 32 := 0#32
  ![v17.toNat, 0, 0]
def k3_dev2 (d0 : Dev nD) : Nat :=
  let c0_i32_10 : BitVec 32 := 0#32
  let c1_i32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Scalar.subi c1_i32 v2
  let c16_i32_9 : BitVec 32 := 16#32
  let v18 : BitVec 32 := Scalar.muli v3 c16_i32_9
  let v19 : BitVec 32 := Scalar.addi c0_i32_10 v18
  let v4 : BitVec 32 := Dev.word d0
  let c4_i32_0 : BitVec 32 := 4#32
  let v5 : BitVec 32 := Scalar.divsi v4 c4_i32_0
  let c4_i32 : BitVec 32 := 4#32
  let v6 : BitVec 32 := Scalar.remsi v5 c4_i32
  let c4_i32_11 : BitVec 32 := 4#32
  let v20 : BitVec 32 := Scalar.muli v6 c4_i32_11
  let v21 : BitVec 32 := Scalar.addi v19 v20
  let v7 : BitVec 32 := Dev.word d0
  let c1_i32_2 : BitVec 32 := 1#32
  let v8 : BitVec 32 := Scalar.divsi v7 c1_i32_2
  let c4_i32_1 : BitVec 32 := 4#32
  let v9 : BitVec 32 := Scalar.remsi v8 c4_i32_1
  let c1_i32_12 : BitVec 32 := 1#32
  let v22 : BitVec 32 := Scalar.muli v9 c1_i32_12
  let v23 : BitVec 32 := Scalar.addi v21 v22
  v23.toNat
def k3_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v36 : Index := Scalar.indexCast v2
  let c0 : Index := 0#32
  let c0_24 : Index := 0#32
  ![v36.toNat, 0, 0]
abbrev stage3_0 : Fin 1 → Memref sig .tc .vmem S2x512x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S512x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S8x1024x1024 : Shape := ⟨3, ![8, 1024, 1024]⟩
abbrev S2x1024 : Shape := ⟨2, ![2, 1024]⟩
abbrev S2x1x1024 : Shape := ⟨3, ![2, 1, 1024]⟩
abbrev S8 : Shape := ⟨1, ![8]⟩
abbrev S1x8x1 : Shape := ⟨3, ![1, 8, 1]⟩
abbrev S2x8x1024 : Shape := ⟨3, ![2, 8, 1024]⟩
abbrev S2x8x1024x1 : Shape := ⟨4, ![2, 8, 1024, 1]⟩
abbrev S1x8x1024x1024 : Shape := ⟨4, ![1, 8, 1024, 1024]⟩
abbrev S2x1x1024x1 : Shape := ⟨4, ![2, 1, 1024, 1]⟩
abbrev S2x8x1024x1024 : Shape := ⟨4, ![2, 8, 1024, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x8, .bf16⟩
  | .hbm, ⟨2, _⟩ => ⟨S8x1024x2048, .bf16⟩
  | .hbm, ⟨3, _⟩ => ⟨S8x2048x1024, .bf16⟩
  | .hbm, ⟨4, _⟩ => ⟨S1024x1024, .f32⟩
  | .hbm, ⟨5, _⟩ => ⟨S1024x8, .f32⟩
  | .hbm, ⟨6, _⟩ => ⟨S8x1024x2048, .f32⟩
  | .hbm, ⟨7, _⟩ => ⟨S8x2048x1024, .f32⟩
  | .hbm, ⟨8, _⟩ => ⟨S1024x8, .f32⟩
  | .hbm, ⟨9, _⟩ => ⟨S1024x2, .f32⟩
  | .hbm, ⟨10, _⟩ => ⟨S1024x2, .i32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x2, .f32⟩
  | .hbm, ⟨15, _⟩ => ⟨S1024x2, .f32⟩
  | .hbm, ⟨16, _⟩ => ⟨S1024x2, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x2, .f32⟩
  | .hbm, ⟨21, _⟩ => ⟨S1024x2, .f32⟩
  | .hbm, ⟨22, _⟩ => ⟨S8x2048x1024, .f32⟩
  | .hbm, ⟨23, _⟩ => ⟨S8x1024x2048, .f32⟩
  | .hbm, ⟨24, _⟩ => ⟨S_, .f32⟩
  | .hbm, ⟨25, _⟩ => ⟨S8x1024x2048, .f32⟩
  | .hbm, ⟨26, _⟩ => ⟨S8x1024x2048, .f32⟩
  | .hbm, ⟨27, _⟩ => ⟨S8x1024x1024, .f32⟩
  | .hbm, ⟨28, _⟩ => ⟨S2x1024, .i32⟩
  | .hbm, ⟨29, _⟩ => ⟨S2x1x1024, .i32⟩
  | .hbm, ⟨30, _⟩ => ⟨S8, .i32⟩
  | .hbm, ⟨31, _⟩ => ⟨S1x8x1, .i32⟩
  | .hbm, ⟨32, _⟩ => ⟨S2x8x1024, .i32⟩
  | .hbm, ⟨33, _⟩ => ⟨S2x8x1024, .i32⟩
  | .hbm, ⟨34, _⟩ => ⟨S2x8x1024, .i1⟩
  | .hbm, ⟨35, _⟩ => ⟨S2x8x1024x1, .i1⟩
  | .hbm, ⟨36, _⟩ => ⟨S1x8x1024x1024, .f32⟩
  | .hbm, ⟨37, _⟩ => ⟨S2x1024, .f32⟩
  | .hbm, ⟨38, _⟩ => ⟨S2x1x1024x1, .f32⟩
  | .hbm, ⟨39, _⟩ => ⟨S2x8x1024x1024, .f32⟩
  | .hbm, ⟨40, _⟩ => ⟨S2x8x1024x1024, .f32⟩
  | .hbm, ⟨41, _⟩ => ⟨S2x8x1024x1024, .f32⟩
  | .hbm, ⟨42, _⟩ => ⟨S_, .f32⟩
  | .hbm, ⟨43, _⟩ => ⟨S_, .f32⟩
  | .hbm, ⟨44, _⟩ => ⟨S2x8x1024x1024, .i1⟩
  | .hbm, ⟨45, _⟩ => ⟨S2x8x1024x1024, .f32⟩
  | .hbm, ⟨46, _⟩ => ⟨S2x8x1024x1024, .f32⟩
  | .hbm, ⟨47, _⟩ => ⟨S_, .f32⟩
  | .hbm, ⟨48, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Proof.Peers.lean ====
/-
  The two halves of the mesh and the two-slot buffers the devices of a pair assemble.

  Device `c` of the 2 × 4 × 4 mesh exchanges only with the device that differs from it in the first coordinate. A buffer
  of shape `2 × n × k` is filled by both: slot `x` with what the pair's device at first coordinate `x` holds.
-/
module

public import proofs.«01_k».proof.Proof.Gen.KernelIdeal
public import Idealize.ShloMosaic.Lib.ValueLayout
public import Idealize.ShloMosaic.Lib.Pipeline.Value
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.ShloMosaic.ValueIdx
open Idealize.SL Idealize.SL.Sem

/-! ## Pairs of devices -/

/-- The device at the other first coordinate, the other coordinates kept. -/
def pr (c : Dev nD) : Dev nD := ⟨(c.val + 16) % 32, Nat.mod_lt _ (by decide)⟩

/-- A device's first coordinate. -/
def xc (c : Dev nD) : Fin 2 := ⟨c.val / 16, by have := c.isLt; unfold nD at this; omega⟩

/-- The device of `c`'s pair at first coordinate `x`. -/
def row (x : Fin 2) (c : Dev nD) : Dev nD := ⟨16 * x.val + c.val % 16, by have := x.isLt; unfold nD; omega⟩

theorem pr_pr (c : Dev nD) : pr (pr c) = c := by revert c; decide
theorem row_xc (c : Dev nD) : row (xc c) c = c := by revert c; decide
theorem row_pr (x : Fin 2) (c : Dev nD) : row x (pr c) = row x c := by revert x c; decide
theorem row_xc_pr (c : Dev nD) : row (xc (pr c)) c = pr c := by revert c; decide
theorem row_xc' (c : Dev nD) : row (xc c) (pr c) = c := by rw [row_pr, row_xc]
theorem xc_pr_ne (c : Dev nD) : xc (pr c) ≠ xc c := by revert c; decide
theorem xc_pr_val (c : Dev nD) : (xc (pr c)).val = 1 - c.val / 16 := by revert c; decide
theorem xc_cases (c : Dev nD) (x : Fin 2) : x = xc c ∨ x = xc (pr c) := by revert x c; decide

/-- Exchanging every pair, as a permutation of the devices. -/
def swap : Dev nD ≃ Dev nD := ⟨pr, pr, pr_pr, pr_pr⟩

theorem pr_val (c : Dev nD) : (pr c).val = (4 * ((c.val / 4) % 4) + c.val % 4 + 16) - 16 * (c.val / 16) := by revert c; decide

theorem k0_dev1_pr (c : Dev nD) : (⟨k0_dev1 c, Facts₀.k0_dev1_lt c⟩ : Dev nD) = pr c := Fin.ext ((k0_dev1_eq c).trans (pr_val c).symm)
theorem k0_dev2_pr (c : Dev nD) : (⟨k0_dev2 c, Facts₀.k0_dev2_lt c⟩ : Dev nD) = pr c := Fin.ext ((k0_dev2_eq c).trans (pr_val c).symm)
theorem k1_dev1_pr (c : Dev nD) : (⟨k1_dev1 c, Facts₀.k1_dev1_lt c⟩ : Dev nD) = pr c := Fin.ext ((k1_dev1_eq c).trans (pr_val c).symm)
theorem k1_dev2_pr (c : Dev nD) : (⟨k1_dev2 c, Facts₀.k1_dev2_lt c⟩ : Dev nD) = pr c := Fin.ext ((k1_dev2_eq c).trans (pr_val c).symm)
theorem k1_dev3_pr (c : Dev nD) : (⟨k1_dev3 c, Facts₀.k1_dev3_lt c⟩ : Dev nD) = pr c := Fin.ext ((k1_dev3_eq c).trans (pr_val c).symm)
theorem k1_dev4_pr (c : Dev nD) : (⟨k1_dev4 c, Facts₀.k1_dev4_lt c⟩ : Dev nD) = pr c := Fin.ext ((k1_dev4_eq c).trans (pr_val c).symm)
theorem k3_dev1_pr (c : Dev nD) : (⟨k3_dev1 c, Facts₀.k3_dev1_lt c⟩ : Dev nD) = pr c := Fin.ext ((k3_dev1_eq c).trans (pr_val c).symm)
theorem k3_dev2_pr (c : Dev nD) : (⟨k3_dev2 c, Facts₀.k3_dev2_lt c⟩ : Dev nD) = pr c := Fin.ext ((k3_dev2_eq c).trans (pr_val c).symm)

/-- The offset of slot `x`. -/
def slotOff (x : Fin 2) : Fin 3 → ℕ := ![x.val, 0, 0]

theorem k0_off1_slot (c : Dev nD) : k0_off1 c = slotOff (xc c) := k0_off1_eq c
theorem k0_off2_slot (c : Dev nD) : k0_off2 c = slotOff (xc c) := k0_off2_eq c
theorem k1_off1_slot (c : Dev nD) : k1_off1 c = slotOff (xc c) := k1_off1_eq c
theorem k1_off2_slot (c : Dev nD) : k1_off2 c = slotOff (xc c) := k1_off2_eq c
theorem k1_off3_slot (c : Dev nD) : k1_off3 c = slotOff (xc c) := k1_off3_eq c
theorem k1_off4_slot (c : Dev nD) : k1_off4 c = slotOff (xc c) := k1_off4_eq c
theorem k3_off2_slot (c : Dev nD) : k3_off2 c = slotOff (xc c) := k3_off2_eq c
theorem k3_off1_slot (c : Dev nD) : k3_off1 c = slotOff (xc (pr c)) := by rw [k3_off1_eq]; unfold slotOff; rw [xc_pr_val]

/-! ## Slots of a two-slot buffer -/

abbrev Two (n k : ℕ) : Shape := ⟨3, ![2, n, k]⟩
abbrev One (n k : ℕ) : Shape := ⟨3, ![1, n, k]⟩
abbrev Mat (n k : ℕ) : Shape := ⟨2, ![n, k]⟩

/-- The indices of slot `x`. -/
def half (n k : ℕ) (x : Fin 2) : Finset (Two n k).Idx := Finset.univ.filter fun i => (i 0).val = x.val

theorem mem_half {n k : ℕ} {x : Fin 2} {i : (Two n k).Idx} : i ∈ half n k x ↔ i 0 = x := by
  unfold half; rw [Finset.mem_filter]; exact ⟨fun h => Fin.ext h.2, fun h => ⟨Finset.mem_univ _, congrArg Fin.val h⟩⟩

theorem half_disjoint {n k : ℕ} {x x' : Fin 2} (h : x ≠ x') : Disjoint (half n k x) (half n k x') :=
  Finset.disjoint_left.mpr fun i hi hi' => h ((mem_half.mp hi).symm.trans (mem_half.mp hi'))

theorem half_union (n k : ℕ) (c : Dev nD) : half n k (xc c) ∪ half n k (xc (pr c)) = Finset.univ := by
  ext i
  rw [Finset.mem_union, mem_half, mem_half]
  exact ⟨fun _ => Finset.mem_univ _, fun _ => xc_cases c (i 0)⟩

/-- What the pair of `c` assembles: slot `x` holds what the pair's device at first coordinate `x` contributes. -/
def stk {n k : ℕ} {α : Type} (g : Dev nD → (Mat n k).Idx → α) (c : Dev nD) : (Two n k).Idx → α :=
  fun i => g (row ⟨(i 0).val, (i 0).isLt⟩ c) (ix2 (i 1) (i 2))

theorem stk_pr {n k : ℕ} {α : Type} (g : Dev nD → (Mat n k).Idx → α) (c : Dev nD) : stk g (pr c) = stk g c := by
  funext i; unfold stk; rw [row_pr]

/-- The slot's rectangle. -/
theorem mem_slot {n k : ℕ} {off : Fin 3 → ℕ} {x : Fin 2} (h : off = slotOff x) (inb : ∀ a, off a + (One n k).size a ≤ (Two n k).size a)
    (i : (Two n k).Idx) : i ∈ (Rect.unit (s := Two n k) off (One n k).size inb).set ↔ i 0 = x := by
  subst h
  rw [Rect.mem_set_unit]
  constructor
  · intro hi
    have h0 := hi 0
    have h1 : (slotOff x 0 : ℕ) = x.val := rfl
    have h2 : (One n k).size 0 = 1 := rfl
    rw [h1, h2] at h0
    exact Fin.ext (by omega)
  · rintro rfl a
    fin_cases a
    · exact ⟨le_refl _, Nat.lt_succ_self _⟩
    · exact ⟨Nat.zero_le _, by have := (i 1).isLt; show (i 1).val < 0 + n; rw [Nat.zero_add]; exact this⟩
    · exact ⟨Nat.zero_le _, by have := (i 2).isLt; show (i 2).val < 0 + k; rw [Nat.zero_add]; exact this⟩

theorem slot_set {n k : ℕ} {off : Fin 3 → ℕ} {x : Fin 2} (h : off = slotOff x) (inb : ∀ a, off a + (One n k).size a ≤ (Two n k).size a) :
    (Rect.unit (s := Two n k) off (One n k).size inb).set = half n k x := by
  ext i; rw [mem_slot h inb, mem_half]

/-- Where the slot's index `(0, i, j)` lies. -/
theorem slot_emb {n k : ℕ} {off : Fin 3 → ℕ} {x : Fin 2} (h : off = slotOff x) (inb : ∀ a, off a + (One n k).size a ≤ (Two n k).size a)
    (i : Fin n) (j : Fin k) :
    (Rect.unit (s := Two n k) off (One n k).size inb).emb (ix3 (0 : Fin 1) i j) = (ix3 x i j : (Two n k).Idx) := by
  subst h
  funext a
  fin_cases a
  · exact Fin.ext (show x.val + 1 * 0 = x.val by omega)
  · exact Fin.ext (show 0 + 1 * i.val = i.val by omega)
  · exact Fin.ext (show 0 + 1 * j.val = j.val by omega)

/-! ## Writing and reading a slot through a memref -/

section Views

variable {Val : EltTy → Type} {e : EltTy} {n k : ℕ} (M : Memref sig .tc .vmem (Two n k) e)
  {off : Fin 3 → ℕ} {x : Fin 2} (hoff : off = slotOff x) (inb : ∀ a, off a + (One n k).size a ≤ (Two n k).size a)

omit hoff inb M in
/-- A view written whole agrees, on its elements, with any contents it reads the written values from. -/
theorem agree_of_read {s : Shape} (v : View sig .tc .vmem s e) (f h : v.ty.Contents Val) (w : s.Idx → Val e)
    (hrd : ∀ y, v.read Val h y = w y) : ∀ p ∈ v.set, v.write Val f w Finset.univ p = h p := by
  intro p hp
  obtain ⟨y, -, rfl⟩ := Finset.mem_map.mp hp
  have h1 := hrd y
  rw [View.read_apply] at h1
  rw [View.write_emb_of_mem _ _ (Finset.mem_univ y), ← h1, cast_cast, cast_eq]

include hoff in
/-- Reading the slot through its squeezed view gives the slot's entries. -/
theorem read_slot (hr) (hq : (One n k).Squeezes (Mat n k)) (h : M.view.ty.Contents Val) (i : Fin n) (j : Fin k) :
    ((M.slice (Rect.unit (s := Two n k) off (One n k).size inb) hr).squeeze (Mat n k) hq).view.read Val h (ix2 i j)
      = M.view.read Val h (ix3 x i j) := by
  have hc : (One n k).ShapeCasts (Mat n k) := hq.numel_eq
  have h1 := Memref.read_squeeze_slice M (Rect.unit (s := Two n k) off (One n k).size inb) hr hq hc h
  refine (congrFun h1 (ix2 i j)).trans ?_
  rw [show (ix2 i j : (Mat n k).Idx) = ix2 i j from rfl]
  refine (shapeCast_1ab_ab_apply _ hc i j).trans ?_
  exact congrArg (M.view.read Val h) (slot_emb hoff inb i j)

include hoff in
/-- What lands in a slot: the slot's view written whole with `w` agrees on the slot with any contents whose slot reads `w`. -/
theorem landed_slot (hr) (hq : (One n k).Squeezes (Mat n k)) (f h : M.view.ty.Contents Val) (w : (Mat n k).Idx → Val e)
    (hw : ∀ i j, M.view.read Val h (ix3 x i j) = w (ix2 i j)) :
    ∀ p ∈ ((M.slice (Rect.unit (s := Two n k) off (One n k).size inb) hr).squeeze (Mat n k) hq).view.set,
      ((M.slice (Rect.unit (s := Two n k) off (One n k).size inb) hr).squeeze (Mat n k) hq).view.write Val f w Finset.univ p = h p := by
  refine agree_of_read ((M.slice (Rect.unit (s := Two n k) off (One n k).size inb) hr).squeeze (Mat n k) hq).view f h w fun y => ?_
  rw [eq_ix2 y]
  exact (read_slot M hoff inb hr hq h _ _).trans (hw _ _)

include hoff in
/-- A store of the whole slot agrees on the slot with any contents whose slot reads the stored values. -/
theorem stored_slot (f h : M.view.ty.Contents Val) (w : (One n k).Idx → Val e)
    (hw : ∀ i j, M.view.read Val h (ix3 x i j) = w (ix3 0 i j)) :
    ∀ p ∈ (M.access (Rect.unit (s := Two n k) off (One n k).size inb)).set,
      (M.access (Rect.unit (s := Two n k) off (One n k).size inb)).write Val f w Finset.univ p = h p := by
  have hrd : ∀ y, (M.access (Rect.unit (s := Two n k) off (One n k).size inb)).read Val h y = w y := fun y => by
    have hy : y = (ix3 (0 : Fin 1) (y 1) (y 2) : (One n k).Idx) := by
      funext a; fin_cases a
      · exact Fin.ext (Nat.lt_one_iff.mp (y 0).isLt)
      · rfl
      · rfl
    rw [hy]
    refine Eq.trans ?_ (hw (y 1) (y 2))
    exact congrArg (M.view.read Val h) (slot_emb hoff inb (y 1) (y 2))
  exact agree_of_read (M.access (Rect.unit (s := Two n k) off (One n k).size inb)) f h w hrd

end Views

/-- The one-slot image of a matrix at an index. -/
theorem lift_apply {n k : ℕ} {α : Type} (w : (Mat n k).Idx → α) (h1 : (Mat n k).ShapeCasts (Mat n k)) (h2 : (Mat n k).ShapeCasts (One n k))
    (i : Fin n) (j : Fin k) : shapeCast (One n k) (shapeCast (Mat n k) w h1) h2 (ix3 0 i j) = w (ix2 i j) := by
  rw [shapeCast_self]; exact shapeCast_ab_1ab_apply w h2 0 i j

/-- The pair's assembled buffer at the own slot reads the own contribution. -/
theorem stk_own {n k : ℕ} {α : Type} (g : Dev nD → (Mat n k).Idx → α) (c : Dev nD) (i : Fin n) (j : Fin k) :
    stk g c (ix3 (xc c) i j) = g c (ix2 i j) := by
  show g (row (xc c) c) (ix2 i j) = _; rw [row_xc]
/-- The partner's assembled buffer at the own slot reads the own contribution. -/
theorem stk_sent {n k : ℕ} {α : Type} (g : Dev nD → (Mat n k).Idx → α) (c : Dev nD) (i : Fin n) (j : Fin k) :
    stk g (pr c) (ix3 (xc c) i j) = g c (ix2 i j) := by
  show g (row (xc c) (pr c)) (ix2 i j) = _; rw [row_xc']

end Cert.Moe

end
-- ==== Proof.Protocol.lean ====
/-
  The protocol of the three kernels that talk: the cells, what each hands over, and in which order they may be waited on.

  Every talking kernel runs the same conversation between the two devices of a pair: signal the partner's barrier (handing
  it the buffers it will write into), wait on the own barrier, start one copy per array into the partner's buffer, wait for
  each copy's departure and for the partner's arrival. Each cell carries ONE payment, in round 0.
-/
module

public import proofs.«01_k».proof.Proof.Peers
public import proofs.«01_k».proof.Proof.Gen.KernelIdeal.Regions
public import proofs.«01_k».proof.Proof.Gen.KernelIdeal.Launch
public import proofs.«01_k».proof.Proof.Gen.KernelIdeal.Points
public import proofs.«01_k».proof.Proof.Gen.KernelIdeal.Skeleton
public import Idealize.ShloMosaic.Lib.Rounds
public import Idealize.ShloMosaic.Lib.Pipeline.RegionTalk

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- Two copies of the rounds library's state: the pipelines' and this protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## What is exchanged -/

/-- What every device puts into the exchanges: its router columns; its tokens, their chosen experts and the weights of the
    choices; and the partial sums of all the pair's tokens. -/
structure Vals (F : FTy → Type) where
  r : Dev nD → (Mat 1024 4).Idx → Elt F .bf16
  x : Dev nD → (Mat 512 1024).Idx → Elt F .bf16
  i : Dev nD → (Mat 512 2).Idx → Elt F .i32
  w : Dev nD → (Mat 512 2).Idx → Elt F .f32
  p : Dev nD → (Two 512 1024).Idx → Elt F .bf16

/-- Slot `x` of the partial sums, as a matrix. -/
def part {α : Type} (q : (Two 512 1024).Idx → α) (x : Fin 2) : (Mat 512 1024).Idx → α := fun i => q (ix3 x (i 0) (i 1))

/-! ## Cells -/

/-- The barrier of talking kernel `k`. -/
abbrev barL : Fin 3 → SemLoc sig := fun | 0 => .reg barrier0 | 1 => .reg barrier1 | 2 => .reg barrier2
/-- The departure semaphore of transfer `j`: 0 the router columns; 1, 2, 3 the tokens, choices, weights; 4 the partial sums. -/
abbrev sndL : Fin 5 → SemLoc sig := fun | 0 => .dma 2 | 1 => .dma 10 | 2 => .dma 11 | 3 => .dma 12 | 4 => .dma 25
/-- The arrival semaphore of transfer `j`. -/
abbrev rcvL : Fin 5 → SemLoc sig := fun | 0 => .dma 3 | 1 => .dma 13 | 2 => .dma 14 | 3 => .dma 15 | 4 => .dma 26

abbrev at_ (c : Dev nD) (s : SemLoc sig) : GSem nD τ sig := ((c : Thread nD τ), s)

/-- What transfer `j` counts. -/
def N0 : ℕ := (Memref.whole cc0_stg0_0 : Memref sig .tc .vmem S1024x4 .bf16).view.dmaCredit
def N1 : ℕ := (Memref.whole cc1_stg0_0 : Memref sig .tc .vmem S512x1024 .bf16).view.dmaCredit
def N2 : ℕ := (Memref.whole cc1_stg1_0 : Memref sig .tc .vmem S512x2 .i32).view.dmaCredit
def N3 : ℕ := (Memref.whole cc1_stg2_0 : Memref sig .tc .vmem S512x2 .f32).view.dmaCredit
def N4 : ℕ := (Memref.whole cc3_scratch0 : Memref sig .tc .vmem S512x1024 .bf16).view.dmaCredit

theorem N0_pos : 0 < N0 := View.dmaCredit_pos _ (by decide)
theorem N1_pos : 0 < N1 := View.dmaCredit_pos _ (by decide)
theorem N2_pos : 0 < N2 := View.dmaCredit_pos _ (by decide)
theorem N3_pos : 0 < N3 := View.dmaCredit_pos _ (by decide)
theorem N4_pos : 0 < N4 := View.dmaCredit_pos _ (by decide)

abbrev Nof : Fin 5 → ℕ := fun | 0 => N0 | 1 => N1 | 2 => N2 | 3 => N3 | 4 => N4

/-! ## The buffers handed over -/

section Pts

variable (c : Dev nD)

/-- Device `c`'s slot the partner fills, in each exchange's buffer; and the buffer the partner's partial sums land in. -/
def landR (f : (Two 1024 4).Idx → Elt F .bf16) : sProp 𝕄 := (c : Thread nD τ).loc cc0_stg1_0 ↦[half 1024 4 (xc (pr c))]{fullShare} f
def landX (f : (Two 512 1024).Idx → Elt F .bf16) : sProp 𝕄 := (c : Thread nD τ).loc cc1_stg3_0 ↦[half 512 1024 (xc (pr c))]{fullShare} f
def landI (f : (Two 512 2).Idx → Elt F .i32) : sProp 𝕄 := (c : Thread nD τ).loc cc1_stg4_0 ↦[half 512 2 (xc (pr c))]{fullShare} f
def landW (f : (Two 512 2).Idx → Elt F .f32) : sProp 𝕄 := (c : Thread nD τ).loc cc1_stg5_0 ↦[half 512 2 (xc (pr c))]{fullShare} f
def landP (f : (Mat 512 1024).Idx → Elt F .bf16) : sProp 𝕄 := (c : Thread nD τ).loc cc3_scratch0 ↦{fullShare} f

/-- The sources the copies read, lent until departure. -/
def srcR (f : (Mat 1024 4).Idx → Elt F .bf16) : sProp 𝕄 := (c : Thread nD τ).loc cc0_stg0_0 ↦{fullShare} f
def srcX (f : (Mat 512 1024).Idx → Elt F .bf16) : sProp 𝕄 := (c : Thread nD τ).loc cc1_stg0_0 ↦{fullShare} f
def srcI (f : (Mat 512 2).Idx → Elt F .i32) : sProp 𝕄 := (c : Thread nD τ).loc cc1_stg1_0 ↦{fullShare} f
def srcW (f : (Mat 512 2).Idx → Elt F .f32) : sProp 𝕄 := (c : Thread nD τ).loc cc1_stg2_0 ↦{fullShare} f
def srcP (f : (Two 512 1024).Idx → Elt F .bf16) : sProp 𝕄 := (c : Thread nD τ).loc cc3_stg0_0 ↦[half 512 1024 (xc (pr c))]{fullShare} f

end Pts

/-! ## The schedule -/

/-- What device `c` is paid at semaphore `s`: at a barrier the partner's landing buffers, at contents not chosen, and that
    round 0 of the partner's arrival cells is open; at a departure the source back; at an arrival the own buffer's slot,
    filled. -/
def pay (v : Vals F) (c : Dev nD) : SemLoc sig → sProp 𝕄
  | .reg ⟨0, _⟩ => iprop((∃ f, landR (pr c) f) ∗ reached ER (at_ (pr c) (rcvL 0)) 0)
  | .reg ⟨1, _⟩ => iprop(((∃ f, landX (pr c) f) ∗ (∃ f, landI (pr c) f) ∗ (∃ f, landW (pr c) f))
      ∗ reached ER (at_ (pr c) (rcvL 1)) 0 ∗ reached ER (at_ (pr c) (rcvL 2)) 0 ∗ reached ER (at_ (pr c) (rcvL 3)) 0)
  | .reg ⟨2, _⟩ => iprop((∃ f, landP (pr c) f) ∗ reached ER (at_ (pr c) (rcvL 4)) 0)
  | .dma ⟨2, _⟩ => srcR c (v.r c)
  | .dma ⟨3, _⟩ => landR c (stk v.r c)
  | .dma ⟨10, _⟩ => srcX c (v.x c)
  | .dma ⟨11, _⟩ => srcI c (v.i c)
  | .dma ⟨12, _⟩ => srcW c (v.w c)
  | .dma ⟨13, _⟩ => landX c (stk v.x c)
  | .dma ⟨14, _⟩ => landI c (stk v.i c)
  | .dma ⟨15, _⟩ => landW c (stk v.w c)
  | .dma ⟨25, _⟩ => srcP c (v.p c)
  | .dma ⟨26, _⟩ => landP c (part (v.p (pr c)) (xc c))
  | _ => iprop(emp)

/-- How much the payment counts. -/
def amt : SemLoc sig → ℕ
  | .reg _ => 1
  | .dma ⟨2, _⟩ => N0
  | .dma ⟨3, _⟩ => N0
  | .dma ⟨10, _⟩ => N1
  | .dma ⟨11, _⟩ => N2
  | .dma ⟨12, _⟩ => N3
  | .dma ⟨13, _⟩ => N1
  | .dma ⟨14, _⟩ => N2
  | .dma ⟨15, _⟩ => N3
  | .dma ⟨25, _⟩ => N4
  | .dma ⟨26, _⟩ => N4
  | _ => 1

/-- The semaphores the protocol uses. -/
def talk : SemLoc sig → Bool
  | .reg _ => true
  | .dma ⟨2, _⟩ => true
  | .dma ⟨3, _⟩ => true
  | .dma ⟨10, _⟩ => true
  | .dma ⟨11, _⟩ => true
  | .dma ⟨12, _⟩ => true
  | .dma ⟨13, _⟩ => true
  | .dma ⟨14, _⟩ => true
  | .dma ⟨15, _⟩ => true
  | .dma ⟨25, _⟩ => true
  | .dma ⟨26, _⟩ => true
  | _ => false

theorem amt_pos (s : SemLoc sig) : 0 < amt s := by
  unfold amt; split <;> first | exact Nat.one_pos | exact N0_pos | exact N1_pos | exact N2_pos | exact N3_pos | exact N4_pos

/-- One payment on every cell of the protocol, in round 0. -/
def rd (v : Vals F) : Rounds.Schedule (GSem nD τ sig) Unit 𝕄 where
  duties g r := if r = 0 ∧ g.1.2 = .tc ∧ talk g.2 = true then {()} else ∅
  unitless _ := False
  amount g _ _ := amt g.2
  payload g _ _ := pay v g.1.1 g.2
  amount_pos g _ _ _ := amt_pos g.2

instance pay_storable (v : Vals F) (c : Dev nD) (s : SemLoc sig) : BI.Storable (upEmb : UEmb _ 𝕄) (pay v c s) := by
  unfold pay landR landX landI landW landP srcR srcX srcI srcW srcP
  split <;> infer_instance

instance rd_payload_storable (v : Vals F) (g : GSem nD τ sig) (r : ℕ) (d : Unit) :
    BI.Storable (upEmb : UEmb _ 𝕄) ((rd v).payload g r d) := pay_storable v g.1.1 g.2

section Sched

variable (v : Vals F) (c : Dev nD) {s : SemLoc sig} (hs : talk s = true)

include hs in
theorem duties_at : (rd v).duties (at_ c s) 0 = {()} := by dsimp only [rd]; exact if_pos ⟨rfl, rfl, hs⟩
include hs in
theorem mem_duties : () ∈ (rd v).duties (at_ c s) 0 := by rw [duties_at v c hs]; exact Finset.mem_singleton_self _
theorem duties_later (g : GSem nD τ sig) : ∀ r, 1 ≤ r → (rd v).duties g r = ∅ :=
  fun r hr => by dsimp only [rd]; rw [if_neg (fun h => by omega)]
theorem amount_at (s : SemLoc sig) : (rd v).amount (at_ c s) 0 () = amt s := rfl
include hs in
theorem expect_at : (rd v).expect (at_ c s) 0 = amt s := by
  unfold Schedule.expect Schedule.amountOf; rw [duties_at v c hs, Finset.sum_singleton]; rfl
include hs in
theorem rest_at : bigSep ((rd v).duties (at_ c s) 0 \ ∅) (fun u => (rd v).payload (at_ c s) 0 u) = pay v c s := by
  rw [Finset.sdiff_empty, duties_at v c hs, bigSep_singleton]; rfl

end Sched

/-! ## What a device owes, and in which order it may wait -/

/-- The order of the cells: a device may wait on a cell only while everything it still owes lies above it. -/
def lvl : SemLoc sig → ℕ
  | .reg ⟨0, _⟩ => 1
  | .reg ⟨1, _⟩ => 3
  | .reg ⟨2, _⟩ => 5
  | .dma ⟨3, _⟩ => 2
  | .dma ⟨13, _⟩ => 4
  | .dma ⟨14, _⟩ => 4
  | .dma ⟨15, _⟩ => 4
  | .dma ⟨26, _⟩ => 6
  | _ => 0

def L (g : GSem nD τ sig) : Finset Unit := if g.1.2 = .tc then {()} else ∅
def lv (g : GSem nD τ sig) (_ : Unit) : ℕ := lvl g.2

theorem L_of_ne (g : GSem nD τ sig) (h : g.1.2 ≠ .tc) : L g = ∅ := if_neg h
theorem L_tc (c : Dev nD) (s : SemLoc sig) : L (at_ c s) = {()} := if_pos rfl

/-- The tally of one payment at the partner's cell `s`. -/
abbrev owed (c : Dev nD) (s : SemLoc sig) : CellTallies nD τ sig Unit := tallyAt (at_ (pr c) s) () (amt s)

/-- What device `c` pays in each talking kernel. -/
def due0 (c : Dev nD) : CellTallies nD τ sig Unit := owed c (rcvL 0) + owed c (barL 0)
def due1 (c : Dev nD) : CellTallies nD τ sig Unit := owed c (rcvL 3) + owed c (rcvL 2) + owed c (rcvL 1) + owed c (barL 1)
def due3 (c : Dev nD) : CellTallies nD τ sig Unit := owed c (rcvL 4) + owed c (barL 2)

/-- Everything in `O` is owed at cells above `b`. -/
def Above (b : ℕ) (O : CellTallies nD τ sig Unit) : Prop := ∀ g u, 0 < O g u → u ∈ L g ∧ b < lv g u

theorem above_zero (b : ℕ) : Above b 0 := fun _ _ h => absurd h (Nat.lt_irrefl 0)
theorem above_add {b : ℕ} {O O' : CellTallies nD τ sig Unit} (h : Above b O) (h' : Above b O') : Above b (O + O') := fun g u hg => by
  have hg' : 0 < O g u + O' g u := hg
  rcases Nat.eq_zero_or_pos (O g u) with h0 | h0
  · exact h' g u (by omega)
  · exact h g u h0
theorem above_owed {b : ℕ} (c : Dev nD) (s : SemLoc sig) (h : b < lvl s) : Above b (owed c s) := fun g u hg => by
  unfold owed at hg
  rw [tallyAt_apply] at hg
  by_cases hh : g = at_ (pr c) s ∧ u = ()
  · rw [hh.1, L_tc]; exact ⟨Finset.mem_singleton_self _, h⟩
  · rw [if_neg hh] at hg; exact absurd hg (Nat.lt_irrefl 0)
theorem above_mono {b b' : ℕ} {O : CellTallies nD τ sig Unit} (hb : b' ≤ b) (h : Above b O) : Above b' O :=
  fun g u hg => ⟨(h g u hg).1, lt_of_le_of_lt hb (h g u hg).2⟩

theorem above_due0 (c : Dev nD) : Above 0 (due0 c) := above_add (above_owed c _ (by decide)) (above_owed c _ (by decide))
theorem above_due1 (c : Dev nD) : Above 2 (due1 c) :=
  above_add (above_add (above_add (above_owed c _ (by decide)) (above_owed c _ (by decide))) (above_owed c _ (by decide))) (above_owed c _ (by decide))
theorem above_due3 (c : Dev nD) : Above 4 (due3 c) := above_add (above_owed c _ (by decide)) (above_owed c _ (by decide))

/-- A device may wait on cell `s` while all it owes lies above it. -/
theorem mayWait (c : Dev nD) (s : SemLoc sig) {O : CellTallies nD τ sig Unit} (h : Above (lvl s) O) :
    (levAts L lv : sProp 𝕄) ⊢ MayWait (c : Thread nD τ) s () O :=
  MayOwe.of_cut (L := L) (lev := lv) (lvl s)
    (fun p hp => by rw [Finset.mem_singleton.mp hp]; exact (L_tc c s).symm ▸ Finset.mem_singleton_self _)
    (fun g u hg => (h g u hg).1) (fun p hp => by rw [Finset.mem_singleton.mp hp]; exact le_refl _) (fun g u hg => (h g u hg).2)

/-! ## The cells, listed; the standing knowledge of their invariants -/

/-- The ten scoped semaphores of the protocol: the departures, then the arrivals. -/
abbrev scL : Fin 10 → SemLoc sig := fun
  | 0 => sndL 0 | 1 => sndL 1 | 2 => sndL 2 | 3 => sndL 3 | 4 => sndL 4
  | 5 => rcvL 0 | 6 => rcvL 1 | 7 => rcvL 2 | 8 => rcvL 3 | 9 => rcvL 4

theorem barL_inj : Function.Injective barL := by decide
theorem scL_inj : Function.Injective scL := by decide
theorem scL_ne_barL : ∀ j k, scL j ≠ barL k := by decide
theorem talk_bar (k : Fin 3) : talk (barL k) = true := by revert k; decide
theorem talk_snd (j : Fin 5) : talk (sndL j) = true := by revert j; decide
theorem talk_rcv (j : Fin 5) : talk (rcvL j) = true := by revert j; decide

def barEmb : Dev nD × Fin 3 ↪ GSem nD τ sig :=
  ⟨fun ck => at_ ck.1 (barL ck.2), fun _ _ h => Prod.ext (congrArg (fun g : GSem nD τ sig => g.1.1) h) (barL_inj (congrArg Prod.snd h))⟩
def scEmb : Dev nD × Fin 10 ↪ GSem nD τ sig :=
  ⟨fun ck => at_ ck.1 (scL ck.2), fun _ _ h => Prod.ext (congrArg (fun g : GSem nD τ sig => g.1.1) h) (scL_inj (congrArg Prod.snd h))⟩

/-- The barrier cells; the departure and arrival cells. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨ck, -, rfl⟩ := Finset.mem_map.mp h₁
  obtain ⟨cj, -, h⟩ := Finset.mem_map.mp h₂
  exact scL_ne_barL cj.2 ck.2 (congrArg Prod.snd h)

/-- Every cell's invariant, under one map of names; and that round 0 of every barrier is open. -/
def records (v : Vals F) (K : GSem nD τ sig → ℕ) : sProp 𝕄 :=
  iprop((bigSep (barCells ∪ scCells) fun g => cellInv ER (rd v) (K g) g) ∗ bigSep barCells fun g => reached ER g 0)
instance records_persistent (v : Vals F) (K : GSem nD τ sig → ℕ) : BI.Persistent (records v K) := by unfold records; infer_instance

/-- The same, the names not chosen. -/
def Rec (v : Vals F) : sProp 𝕄 := iprop(∃ K : GSem nD τ sig → ℕ, records v K)
instance Rec_persistent (v : Vals F) : BI.Persistent (Rec v) := by unfold Rec; infer_instance

theorem inv_of_mem (v : Vals F) {g : GSem nD τ sig} (hg : g ∈ (barCells ∪ scCells : Finset (GSem nD τ sig))) :
    Rec v ⊢ (∃ κ, cellInv ER (rd v) κ g : sProp 𝕄) := by
  unfold Rec records
  iintro ⟨%K, HI, -⟩
  iexists K g
  iapply (show (bigSep (barCells ∪ scCells) fun g => (cellInv ER (rd v) (K g) g : sProp 𝕄)) ⊢ cellInv ER (rd v) (K g) g from bigSep_elim hg)
  iexact HI

theorem inv_bar (v : Vals F) (c : Dev nD) (k : Fin 3) : Rec v ⊢ (∃ κ, cellInv ER (rd v) κ (at_ c (barL k)) : sProp 𝕄) :=
  inv_of_mem v (Finset.mem_union_left _ (Finset.mem_map_of_mem barEmb (Finset.mem_univ (c, k))))
theorem sc_mem (c : Dev nD) (j : Fin 10) : at_ c (scL j) ∈ (barCells ∪ scCells : Finset (GSem nD τ sig)) :=
  Finset.mem_union_right _ (Finset.mem_map_of_mem scEmb (Finset.mem_univ (c, j)))
theorem inv_snd (v : Vals F) (c : Dev nD) (j : Fin 5) : Rec v ⊢ (∃ κ, cellInv ER (rd v) κ (at_ c (sndL j)) : sProp 𝕄) :=
  inv_of_mem v (by fin_cases j; exacts [sc_mem c 0, sc_mem c 1, sc_mem c 2, sc_mem c 3, sc_mem c 4])
theorem inv_rcv (v : Vals F) (c : Dev nD) (j : Fin 5) : Rec v ⊢ (∃ κ, cellInv ER (rd v) κ (at_ c (rcvL j)) : sProp 𝕄) :=
  inv_of_mem v (by fin_cases j; exacts [sc_mem c 5, sc_mem c 6, sc_mem c 7, sc_mem c 8, sc_mem c 9])
theorem bar_at (v : Vals F) (c : Dev nD) (k : Fin 3) : Rec v ⊢ (reached ER (at_ c (barL k)) 0 : sProp 𝕄) := by
  unfold Rec records
  iintro ⟨%K, -, HI⟩
  iapply (show (bigSep barCells fun g => (reached ER g 0 : sProp 𝕄)) ⊢ reached ER (at_ c (barL k)) 0 from
    bigSep_elim (Finset.mem_map_of_mem barEmb (Finset.mem_univ (c, k))))
  iexact HI

/-- What a device brings to barrier `k`. -/
def barKit (k : Fin 3) (c : Dev nD) : sProp 𝕄 :=
  iprop(atPos ER (at_ c (barL k)) 0 ∅ 0 ∗ dutyTok ER (at_ (pr c) (barL k)) 0 () ∗ cred (tallyAt (at_ c (barL k)) () 1))
/-- What a device brings to transfer `j`, its two cells not yet opened. -/
def dormKit (j : Fin 5) (c : Dev nD) : sProp 𝕄 :=
  iprop(openTok ER (at_ c (sndL j)) ∗ openTok ER (at_ c (rcvL j))
    ∗ dutyTok ER (at_ c (sndL j)) 0 () ∗ dutyTok ER (at_ (pr c) (rcvL j)) 0 () ∗ cred (tallyAt (at_ c (rcvL j)) () (Nof j)))
/-- The same with the cells opened. -/
def moveKit (j : Fin 5) (c : Dev nD) : sProp 𝕄 :=
  iprop((atPos ER (at_ c (sndL j)) 0 ∅ 0 ∗ reached ER (at_ c (sndL j)) 0) ∗ (atPos ER (at_ c (rcvL j)) 0 ∅ 0 ∗ reached ER (at_ c (rcvL j)) 0)
    ∗ dutyTok ER (at_ c (sndL j)) 0 () ∗ dutyTok ER (at_ (pr c) (rcvL j)) 0 () ∗ cred (tallyAt (at_ c (rcvL j)) () (Nof j)))

/-- A finished cell gives its counter back, at zero. -/
theorem close (v : Vals F) (κ : ℕ) (g : GSem nD τ sig) :
    iprop(cellInv ER (rd v) κ g ∗ atPos ER g (0 + 1) ∅ 0) ⊢ (|={Set.univ}=> semVal g 0 : sProp 𝕄) :=
  Rounds.cell_close ER (rd v) (Set.mem_univ κ) id (duties_later v g)

/-- Opening a transfer's two cells with their counters at zero. -/
theorem open_kit (v : Vals F) (j : Fin 5) (c : Dev nD) :
    iprop(Rec v ∗ dormKit j c ∗ semVal (at_ c (sndL j)) 0 ∗ semVal (at_ c (rcvL j)) 0) ⊢ (|={Set.univ}=> moveKit j c : sProp 𝕄) := by
  have h1 := inv_snd v c j
  have h2 := inv_rcv v c j
  unfold dormKit moveKit
  iintro ⟨#HR, ⟨Ho1, Ho2, Ht1, Ht2, Hc⟩, Hs1, Hs2⟩
  ihave H1 := h1 $$ HR
  icases H1 with ⟨%κ1, #HI1⟩
  ihave H2 := h2 $$ HR
  icases H2 with ⟨%κ2, #HI2⟩
  imod (Rounds.cell_open ER (rd v) (g := at_ c (sndL j)) (Set.mem_univ κ1)) $$ [Ho1 Hs1] with ⟨Hp1, Hr1⟩
  · isplitr; · iexact HI1
    isplitl [Ho1]; · iexact Ho1
    iexact Hs1
  imod (Rounds.cell_open ER (rd v) (g := at_ c (rcvL j)) (Set.mem_univ κ2)) $$ [Ho2 Hs2] with ⟨Hp2, Hr2⟩
  · isplitr; · iexact HI2
    isplitl [Ho2]; · iexact Ho2
    iexact Hs2
  imodintro
  isplitl [Hp1 Hr1]; · isplitl [Hp1]; · iexact Hp1
                       iexact Hr1
  isplitl [Hp2 Hr2]; · isplitl [Hp2]; · iexact Hp2
                       iexact Hr2
  isplitl [Ht1]; · iexact Ht1
  isplitl [Ht2]; · iexact Ht2
  iexact Hc

end Cert.Moe

end
-- ==== Proof.Steps.lean ====
/-
  The three moves of the protocol, as rules over a program's next operation: signal the partner's barrier, wait on an own
  cell, start a copy into the partner's buffer. Each finds the invariants it needs in the standing record.
-/
module

public import proofs.«01_k».proof.Proof.Protocol

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

theorem amt_snd (j : Fin 5) : amt (sndL j) = Nof j := by fin_cases j <;> rfl
theorem amt_rcv (j : Fin 5) : amt (rcvL j) = Nof j := by fin_cases j <;> rfl

/-- Signalling the partner's barrier: pays its one duty, with what the partner is promised there. -/
theorem step_signal (v : Vals F) (c : Dev nD) (k : Fin 3) {dv : Dev nD} (hdv : dv = pr c) {sem : Sem sig} (hsem : barL k = .reg sem) {O : CellTallies nD τ sig Unit} {W : Waits sig Unit}
    {α : Type} {Q : α → sProp 𝕄} {kt : PUnit → Prog (TpuEff nD τ sig (Elt F) Λ₀ .tc) α} {n : ℕ} (hn : n = 1) :
    iprop(Rec v ∗ owes (c : Thread nD τ) (O + owed c (barL k)) W ∗ dutyTok ER (at_ (pr c) (barL k)) 0 () ∗ pay v (pr c) (barL k))
      ⊢ iprop((owes (c : Thread nD τ) O W -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (Dev.tc dv) sem n) kt) Q) := by
  subst hn hdv
  have hi := inv_bar v (pr c) k
  have hb := bar_at v (pr c) k
  have ha : amt (barL k) = 1 := by rw [hsem]; rfl
  have hd := mem_duties v (pr c) (talk_bar k)
  unfold owed
  rw [ha]
  rw [hsem] at hi hb hd ⊢
  iintro ⟨#HR, HO, Ht, Hp⟩ Hk
  ihave H1 := hi $$ HR
  icases H1 with ⟨%κ, #HI⟩
  iapply (Rounds.wp_signal 𝒱₀ ER (rd v) (c : Thread nD τ) none (dst := (pr c : Thread nD τ)) (sem := sem) (r := 0) (d := ()) (κ := κ)
      hd rfl () O rfl) $$ [HO Ht Hp]
  · isplitr; · iexact HI
    isplitl [HO]; · iexact HO
    isplitl [Ht]; · iexact Ht
    isplitl [Hp]
    · iapply (show pay v (pr c) (.reg sem) ⊢ (rd v).payload ((pr c : Thread nD τ), .reg sem) 0 () from .rfl)
      iexact Hp
    iapply hb; iexact HR
  iexact Hk

/-- Waiting on an own cell for its one payment. -/
theorem step_wait (v : Vals F) (c : Dev nD) {s : SemLoc sig} (hs : talk s = true) (hi : Rec v ⊢ (∃ κ, cellInv ER (rd v) κ (at_ c s) : sProp 𝕄))
    {w : TpuEff nD τ sig (Elt F) Λ₀ (c : Thread nD τ).2 PUnit} {k' : ℕ}
    (hw : ∀ K : PUnit → sProp 𝕄, wpE (defs₀ (F := F)) 𝒱₀ (c : Thread nD τ) none Set.univ w K = waitSpec (c : Thread nD τ) Set.univ s k' K) (hk : k' = amt s)
    {O : CellTallies nD τ sig Unit} (hO : Above (lvl s) O) {W : Waits sig Unit}
    {α : Type} {Q : α → sProp 𝕄} {kt : PUnit → Prog (TpuEff nD τ sig (Elt F) Λ₀ .tc) α} :
    iprop(Rec v ∗ levAts L lv ∗ cred (tallyAt (at_ c s) () (amt s)) ∗ owes (c : Thread nD τ) O W ∗ atPos ER (at_ c s) 0 ∅ 0)
      ⊢ iprop(((owes (c : Thread nD τ) O (insert (s, ()) W) ∗ atPos ER (at_ c s) (0 + 1) ∅ 0 ∗ pay v c s)
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  subst hk
  have he := expect_at v c hs
  have hr := rest_at v c hs
  iintro ⟨#HR, #Hl, Hc, HO, Ha⟩ Hk
  ihave H1 := hi $$ HR
  icases H1 with ⟨%κ, #HI⟩
  iapply (Rounds.wp_wait_rest_token 𝒱₀ ER (rd v) (c : Thread nD τ) none (κ := κ) hw (Set.mem_univ _) () (O := O) (W := W) (R := 0) (m := 0) (T := ∅)
      ((Nat.zero_add _).trans he.symm)) $$ [Hc HO Ha]
  · isplitr; · iexact HI
    isplitl [Hc]; · iexact Hc
    isplitl [HO]; · iexact HO
    isplitr; · iapply (mayWait c s hO); iexact Hl
    iexact Ha
  iintro ⟨HO, Ha, -, Hp⟩
  ihave Hp := (Entails.of_eq hr) $$ Hp
  iapply Hk
  isplitl [HO]; · iexact HO
  isplitl [Ha]; · iexact Ha
  iexact Hp

/-- Starting transfer `j` into the partner's buffer: pays the own departure with the source and the partner's arrival with
    the buffer as rewritten. -/
theorem step_send (v : Vals F) (c : Dev nD) (j : Fin 5) {dv : Dev nD} (hdv : dv = pr c) {sp sp' : Space} {s : Shape} {e : EltTy} {src : Memref sig .tc sp s e} {dst : Memref sig .tc sp' s e}
    {hsc : dst.view.ref.isScScratch = false}
    {hsrc : src.view.WordExact} {hdst : dst.view.WordExact} {sS sem : SemLoc sig} (hS : sS = sndL j) (hR : sem = rcvL j)
    {hsem : DmaTarget.Typed sp sem (.remote (dv : Thread nD τ) dst sS hsc)}
    {fs : Buf (Elt F) (src.view.loc (c : Thread nD τ))} {fd : Buf (Elt F) (dst.view.loc (pr c : Thread nD τ))}
    (hN : dst.view.amount sem = Nof j)
    (hpay₁ : (src.view.loc (c : Thread nD τ) ↦[src.view.set]{fullShare} fs) ⊢ pay v c (sndL j))
    (hpay₂ : (dst.view.loc (pr c : Thread nD τ) ↦[dst.view.set]{fullShare} (dst.view.write (Elt F) fd (src.view.read (Elt F) fs) Finset.univ))
      ⊢ pay v (pr c) (rcvL j))
    {O : CellTallies nD τ sig Unit} {W : Waits sig Unit}
    {α : Type} {Q : α → sProp 𝕄} {kt : PUnit → Prog (TpuEff nD τ sig (Elt F) Λ₀ .tc) α} :
    iprop(Rec v ∗ (src.view.loc (c : Thread nD τ) ↦[src.view.set]{fullShare} fs) ∗ (dst.view.loc (pr c : Thread nD τ) ↦[dst.view.set]{fullShare} fd)
        ∗ owes (c : Thread nD τ) (O + owed c (rcvL j)) W ∗ dutyTok ER (at_ c (sndL j)) 0 () ∗ reached ER (at_ c (sndL j)) 0
        ∗ dutyTok ER (at_ (pr c) (rcvL j)) 0 () ∗ reached ER (at_ (pr c) (rcvL j)) 0)
      ⊢ iprop(((cred (tallyAt (at_ c (sndL j)) () (amt (sndL j))) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma src (.remote (dv : Thread nD τ) dst sS hsc) sem hsrc hdst hsem) kt) Q) := by
  subst hS hR hdv
  have h1 := inv_snd v c j
  have h2 := inv_rcv v (pr c) j
  have a1 := amt_snd j
  have a2 := amt_rcv j
  have d1 := mem_duties v c (talk_snd j)
  have d2 := mem_duties v (pr c) (talk_rcv j)
  unfold owed
  rw [a1, a2]
  iintro ⟨#HR, Hs, Hd, HO, Ht1, Hr1, Ht2, Hr2⟩ Hk
  ihave H1 := h1 $$ HR
  icases H1 with ⟨%κ1, #HI1⟩
  ihave H2 := h2 $$ HR
  icases H2 with ⟨%κ2, #HI2⟩
  iapply (Rounds.wp_send_pointsTo 𝒱₀ ER (rd v) (c : Thread nD τ) none (c' := (pr c : Thread nD τ)) (src := src) (dst := dst)
      (sS := sndL j) (sem := rcvL j) (q := fullShare) (fs := fs) (κ₁ := κ1) (κ₂ := κ2)
      (r₁ := 0) (r₂ := 0) (d₁ := ()) (d₂ := ()) (fd := fd) d1 d2
      () () (Nof j) hN a1 a2 O rfl (W := W) hpay₁ hpay₂) $$ [Hs Hd HO Ht1 Hr1 Ht2 Hr2]
  · isplitr; · iexact HI1
    isplitr; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

/-- A finished barrier, departure or arrival cell gives its counter back at zero. -/
theorem close_at (v : Vals F) (c : Dev nD) {s : SemLoc sig} (hi : Rec v ⊢ (∃ κ, cellInv ER (rd v) κ (at_ c s) : sProp 𝕄)) :
    iprop(Rec v ∗ atPos ER (at_ c s) (0 + 1) ∅ 0) ⊢ (|={Set.univ}=> semVal (at_ c s) 0 : sProp 𝕄) := by
  iintro ⟨#HR, Ha⟩
  ihave H1 := hi $$ HR
  icases H1 with ⟨%κ, #HI⟩
  iapply (close v κ (at_ c s))
  isplitr; · iexact HI
  iexact Ha

end Cert.Moe

end
-- ==== Proof.Body0.lean ====
/-
  The body of the first exchange: the two halves of the gate matrix meet in one buffer.
-/
module

public import proofs.«01_k».proof.Proof.Steps

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem hz2 : (![0, 0] : Fin 2 → Nat) = fun _ => 0 := funext fun a => by fin_cases a <;> rfl

section Exchange0

abbrev rB : Memref sig .tc .vmem S2x1024x4 .bf16 := Memref.whole cc0_stg1_0
abbrev rA : Memref sig .tc .vmem S1024x4 .bf16 := Memref.whole cc0_stg0_0

theorem r_access (c : Dev nD) :
    (rB.access (Rect.unit (s := S2x1024x4) (k0_off1 c) S1x1024x4.size (k0_off1_inb c)) : View sig .tc _ _ _).set = half 1024 4 (xc c) :=
  (View.set_slice_whole _ _).trans (slot_set (k0_off1_slot c) _)

abbrev rSlot (c : Dev nD) : Memref sig .tc .vmem S1024x4 .bf16 :=
  (rB.slice (Rect.unit (s := S2x1024x4) (k0_off2 c) S1x1024x4.size (k0_off2_inb c)) (fun _ => rfl)).squeeze S1024x4 squeezes_S1x1024x4_S1024x4

theorem r_slot (c : Dev nD) : (rSlot c).view.set = half 1024 4 (xc c) :=
  (Memref.set_view_squeeze _ _).trans ((View.set_slice_whole _ _).trans (slot_set (k0_off2_slot c) _))

theorem r_land (c : Dev nD) (f : (Two 1024 4).Idx → Elt F .bf16) :
    (landR (F := F) (pr c) f) = ((rSlot c).view.loc (pr c : Thread nD τ) ↦[(rSlot c).view.set]{fullShare} f : sProp 𝕄) := by
  unfold landR; rw [pr_pr, r_slot]

theorem r_landed (v : Vals F) (c : Dev nD) (f : (Two 1024 4).Idx → Elt F .bf16) :
    ((rSlot c).view.loc (pr c : Thread nD τ) ↦[(rSlot c).view.set]{fullShare}
        ((rSlot c).view.write (Elt F) f (rA.view.read (Elt F) (v.r c)) Finset.univ) : sProp 𝕄)
      = landR (pr c) (stk v.r (pr c)) := by
  rw [r_land]
  exact pointsTo_congr (landed_slot rB (k0_off2_slot c) _ _ _ f (stk v.r (pr c)) _ fun i j => stk_sent v.r c i j)

theorem r_stored (v : Vals F) (c : Dev nD) (f : (Two 1024 4).Idx → Elt F .bf16) (w : S1x1024x4.Idx → Elt F .bf16)
    (hw : ∀ i j, w (ix3 0 i j) = v.r c (ix2 i j)) :
    ((c : Thread nD τ).loc cc0_stg1_0 ↦[half 1024 4 (xc c)]{fullShare}
        ((rB.access (Rect.unit (s := S2x1024x4) (k0_off1 c) S1x1024x4.size (k0_off1_inb c)) : View sig .tc _ _ _).write (Elt F) f w Finset.univ) : sProp 𝕄)
      = ((c : Thread nD τ).loc cc0_stg1_0 ↦[half 1024 4 (xc c)]{fullShare} (stk v.r c)) := by
  rw [← r_access c]
  exact pointsTo_congr (stored_slot rB (k0_off1_slot c) (k0_off1_inb c) f (stk v.r c) w fun i j => (stk_own v.r c i j).trans (hw i j).symm)

theorem r_src (c : Dev nD) (f : (Mat 1024 4).Idx → Elt F .bf16) :
    (srcR c f) = (rA.view.loc (c : Thread nD τ) ↦[rA.view.set]{fullShare} f : sProp 𝕄) := by unfold srcR; rw [View.set_whole]

theorem r_credit (c : Dev nD) : (rSlot c).view.dmaCredit = amt (rcvL 0) := rfl

theorem r_pay (x : Vec F S1024x4 .bf16) (i : Fin 1024) (j : Fin 4) : (k0_pay1 (F := F) x) (ix3 (0 : Fin 1) i j) = x (ix2 i j) := by
  unfold k0_pay1; exact lift_apply (n := 1024) (k := 4) _ _ _ i j

/-- The buffer is its two halves. -/
theorem r_split (c : Dev nD) (f : (Two 1024 4).Idx → Elt F .bf16) :
    ((c : Thread nD τ).loc cc0_stg1_0 ↦{fullShare} f : sProp 𝕄)
      ⊣⊢ iprop(((c : Thread nD τ).loc cc0_stg1_0 ↦[half 1024 4 (xc c)]{fullShare} f) ∗ landR c f) := by
  unfold landR
  have h := pointsTo_union (ℓ := (c : Thread nD τ).loc cc0_stg1_0) (q := fullShare) (f := f) (half_disjoint (n := 1024) (k := 4) (xc_pr_ne c).symm)
    (Ix := Unit) (Val := Elt F) (Name := ℕ) (U := UU) (Lvl := ℕ)
  rw [half_union] at h
  exact h

/-- What a device brings to the first exchange. -/
def pre0 (v : Vals F) (c : Dev nD) (D : CellTallies nD τ sig Unit) (W : Waits sig Unit) (f : (Two 1024 4).Idx → Elt F .bf16) : sProp 𝕄 :=
  iprop(Rec v ∗ levAts L lv ∗ barKit 0 c ∗ moveKit 0 c ∗ srcR c (v.r c) ∗ ((c : Thread nD τ).loc cc0_stg1_0 ↦{fullShare} f)
    ∗ owes (c : Thread nD τ) (D + owed c (rcvL 0) + owed c (barL 0)) W)
/-- What it leaves with: the pair's two halves in its buffer, and the counters at zero. -/
def post0 (v : Vals F) (c : Dev nD) (D : CellTallies nD τ sig Unit) : sProp 𝕄 :=
  iprop(semVal (at_ c (barL 0)) 0 ∗ semVal (at_ c (sndL 0)) 0 ∗ semVal (at_ c (rcvL 0)) 0 ∗ srcR c (v.r c)
    ∗ ((c : Thread nD τ).loc cc0_stg1_0 ↦{fullShare} (stk v.r c)) ∗ ∃ W, owes (c : Thread nD τ) D W)

set_option maxHeartbeats 1600000 in
theorem body0 (v : Vals F) (c : Dev nD) (D : CellTallies nD τ sig Unit) (hD : Above 2 D) (W : Waits sig Unit) (f : (Two 1024 4).Idx → Elt F .bf16)
    (Kt : PUnit → sProp 𝕄) :
    iprop(pre0 v c D W f ∗ (post0 v c D -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold pre0 barKit moveKit
  iintro ⟨⟨#HR, #Hl, ⟨HaB, HtB, HcB⟩, ⟨⟨HaS, #HrS⟩, ⟨HaV, #HrV⟩, HtS, HtV, HcV⟩, Hx, Hy, HO⟩, Hk⟩
  ihave Hy := (r_split c f).1 $$ Hy
  icases Hy with ⟨Hown, Hland⟩
  -- the barrier: hand the partner's half of the own buffer over, receive the own half of the partner's
  iapply (step_signal v c 0 (k0_dev1_pr c) (sem := sig.barrier 0 rfl) rfl (by decide)) $$ [HO HtB Hland]
  · isplitr; · iexact HR
    isplitl [HO]; · iexact HO
    isplitl [HtB]; · iexact HtB
    iapply (show iprop((∃ f, landR (pr (pr c)) f) ∗ reached ER (at_ (pr (pr c)) (rcvL 0)) 0) ⊢ pay v (pr c) (barL 0) from .rfl)
    rw [pr_pr]
    isplitl [Hland]; · iexists f; iexact Hland
    iexact HrV
  iintro HO
  iapply (step_wait v c (talk_bar 0) (inv_bar v c 0) (wpE_semWait_eq 𝒱₀ (c : Thread nD τ) none Set.univ) (by decide)
    (O := D + owed c (rcvL 0)) (W := W) (above_add (above_mono (by decide) hD) (above_owed c (rcvL 0) (by decide)))) $$ [HcB HO HaB]
  · isplitr; · iexact HR
    isplitr; · iexact Hl
    isplitl [HcB]; · iexact HcB
    isplitl [HO]; · iexact HO
    iexact HaB
  iintro ⟨HO, HaB, Hp⟩
  ihave Hp := (show pay v c (barL 0) ⊢ iprop((∃ f, landR (pr c) f) ∗ reached ER (at_ (pr c) (rcvL 0)) 0) from .rfl) $$ Hp
  icases Hp with ⟨⟨%fn, Hn⟩, #HrN⟩
  -- the own half is stored
  unfold srcR
  iapply (wp_load 𝒱₀ (c : Thread nD τ) none Set.univ (m := rA) (Finset.subset_univ _)) $$ Hx
  iintro Hx
  iapply (wp_load_rect 𝒱₀ (c : Thread nD τ) none Set.univ (m := rB) (r_access c).le) $$ Hown
  iintro Hown
  iapply (wp_store 𝒱₀ (c : Thread nD τ) none Set.univ (m := rB) (Mk := Finset.univ) (r_access c).le) $$ Hown
  iintro Hown
  ihave Hown := (Entails.of_eq (r_stored v c f _ (fun i j =>
    (r_pay _ i j).trans (congrFun (Memref.readAt_unit_zero (Elt F) cc0_stg0_0 hz2 _ (v.r c)) _)))) $$ Hown
  -- the copy
  ihave Hn := (Entails.of_eq (r_land c fn)) $$ Hn
  ihave Hx := (Entails.of_eq ((by unfold srcR; rfl : _ = srcR c (v.r c)).trans (r_src c (v.r c)))) $$ Hx
  iapply (step_send v c 0 (k0_dev2_pr c) (src := rA) (dst := rSlot c) rfl rfl (fs := v.r c) (fd := fn) rfl
    (Entails.of_eq (r_src c (v.r c)).symm)
    (Entails.of_eq (r_landed v c fn)) (O := D)) $$ [Hx Hn HO HtS HtV]
  · isplitr; · iexact HR
    isplitl [Hx]; · iexact Hx
    isplitl [Hn]; · iexact Hn
    isplitl [HO]; · iexact HO
    isplitl [HtS]; · iexact HtS
    isplitr; · iexact HrS
    isplitl [HtV]; · iexact HtV
    iexact HrN
  iintro ⟨HcS, HO⟩
  iapply (step_wait v c (talk_snd 0) (inv_snd v c 0) (wpE_waitDma2_eq (src := rSlot c) (dst := rA) 𝒱₀ (c : Thread nD τ) none Set.univ) rfl (O := D) (above_mono (by decide) hD)) $$ [HcS HO HaS]
  · isplitr; · iexact HR
    isplitr; · iexact Hl
    isplitl [HcS]; · iexact HcS
    isplitl [HO]; · iexact HO
    iexact HaS
  iintro ⟨HO, HaS, Hx⟩
  ihave Hx := (show pay v c (sndL 0) ⊢ srcR c (v.r c) from .rfl) $$ Hx
  iapply (step_wait v c (talk_rcv 0) (inv_rcv v c 0) (wpE_waitDma2_eq (src := rA) (dst := rSlot c) 𝒱₀ (c : Thread nD τ) none Set.univ) (r_credit c) (O := D) hD) $$ [HcV HO HaV]
  · isplitr; · iexact HR
    isplitr; · iexact Hl
    isplitl [HcV]; · iexact HcV
    isplitl [HO]; · iexact HO
    iexact HaV
  iintro ⟨HO, HaV, Hy⟩
  ihave Hy := (show pay v c (rcvL 0) ⊢ landR c (stk v.r c) from .rfl) $$ Hy
  rw [wp_ret]
  imod (close_at v c (inv_bar v c 0)) $$ [HaB] with Hb0
  · isplitr; · iexact HR
    iexact HaB
  imod (close_at v c (inv_snd v c 0)) $$ [HaS] with Hs0
  · isplitr; · iexact HR
    iexact HaS
  imod (close_at v c (inv_rcv v c 0)) $$ [HaV] with Hv0
  · isplitr; · iexact HR
    iexact HaV
  imodintro
  iapply Hk
  unfold post0
  isplitl [Hb0]; · iexact Hb0
  isplitl [Hs0]; · iexact Hs0
  isplitl [Hv0]; · iexact Hv0
  isplitl [Hx]; · iexact Hx
  isplitl [Hown Hy]
  · iapply (r_split c (stk v.r c)).2
    isplitl [Hown]; · iexact Hown
    iexact Hy
  iexists _; iexact HO

end Exchange0

end Cert.Moe

end
-- ==== Proof.Body1.lean ====
/-
  The body of the second exchange: the two devices of a pair assemble their tokens, their choices and their weights.
-/
module

public import proofs.«01_k».proof.Proof.Body0

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev xB : Memref sig .tc .vmem S2x512x1024 .bf16 := Memref.whole cc1_stg3_0
abbrev xA : Memref sig .tc .vmem S512x1024 .bf16 := Memref.whole cc1_stg0_0

theorem x_access (c : Dev nD) :
    (xB.access (Rect.unit (s := S2x512x1024) (k1_off1 c) S1x512x1024.size (k1_off1_inb c)) : View sig .tc _ _ _).set = half 512 1024 (xc c) :=
  (View.set_slice_whole _ _).trans (slot_set (k1_off1_slot c) _)

abbrev xSlot (c : Dev nD) : Memref sig .tc .vmem S512x1024 .bf16 :=
  (xB.slice (Rect.unit (s := S2x512x1024) (k1_off2 c) S1x512x1024.size (k1_off2_inb c)) (fun _ => rfl)).squeeze S512x1024 squeezes_S1x512x1024_S512x1024

theorem x_slot (c : Dev nD) : (xSlot c).view.set = half 512 1024 (xc c) :=
  (Memref.set_view_squeeze _ _).trans ((View.set_slice_whole _ _).trans (slot_set (k1_off2_slot c) _))

theorem x_land (c : Dev nD) (f : (Two 512 1024).Idx → Elt F .bf16) :
    (landX (F := F) (pr c) f) = ((xSlot c).view.loc (pr c : Thread nD τ) ↦[(xSlot c).view.set]{fullShare} f : sProp 𝕄) := by
  unfold landX; rw [pr_pr, x_slot]

theorem x_landed (v : Vals F) (c : Dev nD) (f : (Two 512 1024).Idx → Elt F .bf16) :
    ((xSlot c).view.loc (pr c : Thread nD τ) ↦[(xSlot c).view.set]{fullShare}
        ((xSlot c).view.write (Elt F) f (xA.view.read (Elt F) (v.x c)) Finset.univ) : sProp 𝕄)
      = landX (pr c) (stk v.x (pr c)) := by
  rw [x_land]
  exact pointsTo_congr (landed_slot xB (k1_off2_slot c) _ _ _ f (stk v.x (pr c)) _ fun i j => stk_sent v.x c i j)

theorem x_stored (v : Vals F) (c : Dev nD) (f : (Two 512 1024).Idx → Elt F .bf16) (w : S1x512x1024.Idx → Elt F .bf16)
    (hw : ∀ i j, w (ix3 0 i j) = v.x c (ix2 i j)) :
    ((c : Thread nD τ).loc cc1_stg3_0 ↦[half 512 1024 (xc c)]{fullShare}
        ((xB.access (Rect.unit (s := S2x512x1024) (k1_off1 c) S1x512x1024.size (k1_off1_inb c)) : View sig .tc _ _ _).write (Elt F) f w Finset.univ) : sProp 𝕄)
      = ((c : Thread nD τ).loc cc1_stg3_0 ↦[half 512 1024 (xc c)]{fullShare} (stk v.x c)) := by
  rw [← x_access c]
  exact pointsTo_congr (stored_slot xB (k1_off1_slot c) (k1_off1_inb c) f (stk v.x c) w fun i j => (stk_own v.x c i j).trans (hw i j).symm)

theorem x_src (c : Dev nD) (f : (Mat 512 1024).Idx → Elt F .bf16) :
    (srcX c f) = (xA.view.loc (c : Thread nD τ) ↦[xA.view.set]{fullShare} f : sProp 𝕄) := by unfold srcX; rw [View.set_whole]

theorem x_credit (c : Dev nD) : (xSlot c).view.dmaCredit = amt (rcvL 1) := rfl

theorem x_pay (x : Vec F S512x1024 .bf16) (i : Fin 512) (j : Fin 1024) : (k1_pay1 (F := F) x) (ix3 (0 : Fin 1) i j) = x (ix2 i j) := by
  unfold k1_pay1; exact lift_apply (n := 512) (k := 1024) _ _ _ i j

/-- The buffer is its two halves. -/
theorem x_split (c : Dev nD) (f : (Two 512 1024).Idx → Elt F .bf16) :
    ((c : Thread nD τ).loc cc1_stg3_0 ↦{fullShare} f : sProp 𝕄)
      ⊣⊢ iprop(((c : Thread nD τ).loc cc1_stg3_0 ↦[half 512 1024 (xc c)]{fullShare} f) ∗ landX c f) := by
  unfold landX
  have h := pointsTo_union (ℓ := (c : Thread nD τ).loc cc1_stg3_0) (q := fullShare) (f := f) (half_disjoint (n := 512) (k := 1024) (xc_pr_ne c).symm)
    (Ix := Unit) (Val := Elt F) (Name := ℕ) (U := UU) (Lvl := ℕ)
  rw [half_union] at h
  exact h

abbrev iB : Memref sig .tc .vmem S2x512x2 .i32 := Memref.whole cc1_stg4_0
abbrev iA : Memref sig .tc .vmem S512x2 .i32 := Memref.whole cc1_stg1_0

theorem i_access (c : Dev nD) :
    (iB.access (Rect.unit (s := S2x512x2) (k1_off3 c) S1x512x2.size (k1_off3_inb c)) : View sig .tc _ _ _).set = half 512 2 (xc c) :=
  (View.set_slice_whole _ _).trans (slot_set (k1_off3_slot c) _)

abbrev iSlot (c : Dev nD) : Memref sig .tc .vmem S512x2 .i32 :=
  (iB.slice (Rect.unit (s := S2x512x2) (k1_off4 c) S1x512x2.size (k1_off4_inb c)) (fun _ => rfl)).squeeze S512x2 squeezes_S1x512x2_S512x2

theorem i_slot (c : Dev nD) : (iSlot c).view.set = half 512 2 (xc c) :=
  (Memref.set_view_squeeze _ _).trans ((View.set_slice_whole _ _).trans (slot_set (k1_off4_slot c) _))

theorem i_land (c : Dev nD) (f : (Two 512 2).Idx → Elt F .i32) :
    (landI (F := F) (pr c) f) = ((iSlot c).view.loc (pr c : Thread nD τ) ↦[(iSlot c).view.set]{fullShare} f : sProp 𝕄) := by
  unfold landI; rw [pr_pr, i_slot]

theorem i_landed (v : Vals F) (c : Dev nD) (f : (Two 512 2).Idx → Elt F .i32) :
    ((iSlot c).view.loc (pr c : Thread nD τ) ↦[(iSlot c).view.set]{fullShare}
        ((iSlot c).view.write (Elt F) f (iA.view.read (Elt F) (v.i c)) Finset.univ) : sProp 𝕄)
      = landI (pr c) (stk v.i (pr c)) := by
  rw [i_land]
  exact pointsTo_congr (landed_slot iB (k1_off4_slot c) _ _ _ f (stk v.i (pr c)) _ fun i j => stk_sent v.i c i j)

theorem i_stored (v : Vals F) (c : Dev nD) (f : (Two 512 2).Idx → Elt F .i32) (w : S1x512x2.Idx → Elt F .i32)
    (hw : ∀ i j, w (ix3 0 i j) = v.i c (ix2 i j)) :
    ((c : Thread nD τ).loc cc1_stg4_0 ↦[half 512 2 (xc c)]{fullShare}
        ((iB.access (Rect.unit (s := S2x512x2) (k1_off3 c) S1x512x2.size (k1_off3_inb c)) : View sig .tc _ _ _).write (Elt F) f w Finset.univ) : sProp 𝕄)
      = ((c : Thread nD τ).loc cc1_stg4_0 ↦[half 512 2 (xc c)]{fullShare} (stk v.i c)) := by
  rw [← i_access c]
  exact pointsTo_congr (stored_slot iB (k1_off3_slot c) (k1_off3_inb c) f (stk v.i c) w fun i j => (stk_own v.i c i j).trans (hw i j).symm)

theorem i_src (c : Dev nD) (f : (Mat 512 2).Idx → Elt F .i32) :
    (srcI c f) = (iA.view.loc (c : Thread nD τ) ↦[iA.view.set]{fullShare} f : sProp 𝕄) := by unfold srcI; rw [View.set_whole]

theorem i_credit (c : Dev nD) : (iSlot c).view.dmaCredit = amt (rcvL 2) := rfl

theorem i_pay (x : Vec F S512x2 .i32) (i : Fin 512) (j : Fin 2) : (k1_pay2 (F := F) x) (ix3 (0 : Fin 1) i j) = x (ix2 i j) := by
  unfold k1_pay2; exact lift_apply (n := 512) (k := 2) _ _ _ i j

/-- The buffer is its two halves. -/
theorem i_split (c : Dev nD) (f : (Two 512 2).Idx → Elt F .i32) :
    ((c : Thread nD τ).loc cc1_stg4_0 ↦{fullShare} f : sProp 𝕄)
      ⊣⊢ iprop(((c : Thread nD τ).loc cc1_stg4_0 ↦[half 512 2 (xc c)]{fullShare} f) ∗ landI c f) := by
  unfold landI
  have h := pointsTo_union (ℓ := (c : Thread nD τ).loc cc1_stg4_0) (q := fullShare) (f := f) (half_disjoint (n := 512) (k := 2) (xc_pr_ne c).symm)
    (Ix := Unit) (Val := Elt F) (Name := ℕ) (U := UU) (Lvl := ℕ)
  rw [half_union] at h
  exact h

abbrev wB : Memref sig .tc .vmem S2x512x2 .f32 := Memref.whole cc1_stg5_0
abbrev wA : Memref sig .tc .vmem S512x2 .f32 := Memref.whole cc1_stg2_0

theorem w_access (c : Dev nD) :
    (wB.access (Rect.unit (s := S2x512x2) (k1_off3 c) S1x512x2.size (k1_off3_inb c)) : View sig .tc _ _ _).set = half 512 2 (xc c) :=
  (View.set_slice_whole _ _).trans (slot_set (k1_off3_slot c) _)

abbrev wSlot (c : Dev nD) : Memref sig .tc .vmem S512x2 .f32 :=
  (wB.slice (Rect.unit (s := S2x512x2) (k1_off4 c) S1x512x2.size (k1_off4_inb c)) (fun _ => rfl)).squeeze S512x2 squeezes_S1x512x2_S512x2

theorem w_slot (c : Dev nD) : (wSlot c).view.set = half 512 2 (xc c) :=
  (Memref.set_view_squeeze _ _).trans ((View.set_slice_whole _ _).trans (slot_set (k1_off4_slot c) _))

theorem w_land (c : Dev nD) (f : (Two 512 2).Idx → Elt F .f32) :
    (landW (F := F) (pr c) f) = ((wSlot c).view.loc (pr c : Thread nD τ) ↦[(wSlot c).view.set]{fullShare} f : sProp 𝕄) := by
  unfold landW; rw [pr_pr, w_slot]

theorem w_landed (v : Vals F) (c : Dev nD) (f : (Two 512 2).Idx → Elt F .f32) :
    ((wSlot c).view.loc (pr c : Thread nD τ) ↦[(wSlot c).view.set]{fullShare}
        ((wSlot c).view.write (Elt F) f (wA.view.read (Elt F) (v.w c)) Finset.univ) : sProp 𝕄)
      = landW (pr c) (stk v.w (pr c)) := by
  rw [w_land]
  exact pointsTo_congr (landed_slot wB (k1_off4_slot c) _ _ _ f (stk v.w (pr c)) _ fun i j => stk_sent v.w c i j)

theorem w_stored (v : Vals F) (c : Dev nD) (f : (Two 512 2).Idx → Elt F .f32) (w : S1x512x2.Idx → Elt F .f32)
    (hw : ∀ i j, w (ix3 0 i j) = v.w c (ix2 i j)) :
    ((c : Thread nD τ).loc cc1_stg5_0 ↦[half 512 2 (xc c)]{fullShare}
        ((wB.access (Rect.unit (s := S2x512x2) (k1_off3 c) S1x512x2.size (k1_off3_inb c)) : View sig .tc _ _ _).write (Elt F) f w Finset.univ) : sProp 𝕄)
      = ((c : Thread nD τ).loc cc1_stg5_0 ↦[half 512 2 (xc c)]{fullShare} (stk v.w c)) := by
  rw [← w_access c]
  exact pointsTo_congr (stored_slot wB (k1_off3_slot c) (k1_off3_inb c) f (stk v.w c) w fun i j => (stk_own v.w c i j).trans (hw i j).symm)

theorem w_src (c : Dev nD) (f : (Mat 512 2).Idx → Elt F .f32) :
    (srcW c f) = (wA.view.loc (c : Thread nD τ) ↦[wA.view.set]{fullShare} f : sProp 𝕄) := by unfold srcW; rw [View.set_whole]

theorem w_credit (c : Dev nD) : (wSlot c).view.dmaCredit = amt (rcvL 3) := rfl

theorem w_pay (x : Vec F S512x2 .f32) (i : Fin 512) (j : Fin 2) : (k1_pay3 (F := F) x) (ix3 (0 : Fin 1) i j) = x (ix2 i j) := by
  unfold k1_pay3; exact lift_apply (n := 512) (k := 2) _ _ _ i j

/-- The buffer is its two halves. -/
theorem w_split (c : Dev nD) (f : (Two 512 2).Idx → Elt F .f32) :
    ((c : Thread nD τ).loc cc1_stg5_0 ↦{fullShare} f : sProp 𝕄)
      ⊣⊢ iprop(((c : Thread nD τ).loc cc1_stg5_0 ↦[half 512 2 (xc c)]{fullShare} f) ∗ landW c f) := by
  unfold landW
  have h := pointsTo_union (ℓ := (c : Thread nD τ).loc cc1_stg5_0) (q := fullShare) (f := f) (half_disjoint (n := 512) (k := 2) (xc_pr_ne c).symm)
    (Ix := Unit) (Val := Elt F) (Name := ℕ) (U := UU) (Lvl := ℕ)
  rw [half_union] at h
  exact h

/-- What a device brings to the second exchange. -/
def pre1 (v : Vals F) (c : Dev nD) (D : CellTallies nD τ sig Unit) (W : Waits sig Unit) (fx : (Two 512 1024).Idx → Elt F .bf16)
    (fi : (Two 512 2).Idx → Elt F .i32) (fw : (Two 512 2).Idx → Elt F .f32) : sProp 𝕄 :=
  iprop(Rec v ∗ levAts L lv ∗ barKit 1 c ∗ (moveKit 1 c ∗ moveKit 2 c ∗ moveKit 3 c) ∗ (srcX c (v.x c) ∗ srcI c (v.i c) ∗ srcW c (v.w c))
    ∗ (((c : Thread nD τ).loc cc1_stg3_0 ↦{fullShare} fx) ∗ ((c : Thread nD τ).loc cc1_stg4_0 ↦{fullShare} fi) ∗ ((c : Thread nD τ).loc cc1_stg5_0 ↦{fullShare} fw))
    ∗ owes (c : Thread nD τ) (D + owed c (rcvL 3) + owed c (rcvL 2) + owed c (rcvL 1) + owed c (barL 1)) W)
/-- What it leaves with: the pair's tokens, choices and weights, and the counters at zero. -/
def post1 (v : Vals F) (c : Dev nD) (D : CellTallies nD τ sig Unit) : sProp 𝕄 :=
  iprop(semVal (at_ c (barL 1)) 0 ∗ (semVal (at_ c (sndL 1)) 0 ∗ semVal (at_ c (sndL 2)) 0 ∗ semVal (at_ c (sndL 3)) 0)
    ∗ (semVal (at_ c (rcvL 1)) 0 ∗ semVal (at_ c (rcvL 2)) 0 ∗ semVal (at_ c (rcvL 3)) 0)
    ∗ (srcX c (v.x c) ∗ srcI c (v.i c) ∗ srcW c (v.w c))
    ∗ (((c : Thread nD τ).loc cc1_stg3_0 ↦{fullShare} (stk v.x c)) ∗ ((c : Thread nD τ).loc cc1_stg4_0 ↦{fullShare} (stk v.i c))
      ∗ ((c : Thread nD τ).loc cc1_stg5_0 ↦{fullShare} (stk v.w c)))
    ∗ ∃ W, owes (c : Thread nD τ) D W)

set_option maxHeartbeats 4000000 in
theorem body1 (v : Vals F) (c : Dev nD) (D : CellTallies nD τ sig Unit) (hD : Above 4 D) (W : Waits sig Unit) (fx : (Two 512 1024).Idx → Elt F .bf16)
    (fi : (Two 512 2).Idx → Elt F .i32) (fw : (Two 512 2).Idx → Elt F .f32) (Kt : PUnit → sProp 𝕄) :
    iprop(pre1 v c D W fx fi fw ∗ (post1 v c D -∗ Kt ⟨⟩))
      ⊢ wp frame (wpE (defs₀ (F := F)) 𝒱₀ (c : Thread nD τ) none) Set.univ
          (cc1_body (F := F) (Memref.whole cc1_stg0_0) (Memref.isWhole_whole _) (Memref.whole cc1_stg1_0) (Memref.isWhole_whole _)
            (Memref.whole cc1_stg2_0) (Memref.isWhole_whole _) (Memref.whole main_v5) (Memref.isWhole_whole _)
            (Memref.whole cc1_stg3_0) (Memref.isWhole_whole _) (Memref.whole cc1_stg4_0) (Memref.isWhole_whole _)
            (Memref.whole cc1_stg5_0) (Memref.isWhole_whole _) cc1_scratch0 cc1_scratch1) Kt := by
  simp only [cc1_body_eq_skeleton]; unfold cc1_body_skel
  simp only [k1_part1_eq_skeleton, k1_part2_eq_skeleton, k1_part3_eq_skeleton]; unfold k1_part1_skel k1_part2_skel k1_part3_skel
  simp only [semSignalWord, semWaitWord, Prog.lift, Prog.bind_op, Prog.bind_ret, Prog.pure_eq_ret, wp_deviceId]
  unfold pre1 barKit moveKit
  iintro ⟨⟨#HR, #Hl, ⟨HaB, HtB, HcB⟩, ⟨⟨⟨HaSx, #HrSx⟩, ⟨HaVx, #HrVx⟩, HtSx, HtVx, HcVx⟩, ⟨⟨HaSi, #HrSi⟩, ⟨HaVi, #HrVi⟩, HtSi, HtVi, HcVi⟩, ⟨⟨HaSw, #HrSw⟩, ⟨HaVw, #HrVw⟩, HtSw, HtVw, HcVw⟩⟩, ⟨Hx, Hi, Hw⟩, ⟨Hyx, Hyi, Hyw⟩, HO⟩, Hk⟩
  ihave Hyx := (x_split c fx).1 $$ Hyx
  icases Hyx with ⟨Hox, Hgx⟩
  ihave Hyi := (i_split c fi).1 $$ Hyi
  icases Hyi with ⟨Hoi, Hgi⟩
  ihave Hyw := (w_split c fw).1 $$ Hyw
  icases Hyw with ⟨How, Hgw⟩
  -- the barrier: hand the partner's halves of the own buffers over, receive the own halves of the partner's
  iapply (step_signal v c 1 (k1_dev1_pr c) (sem := sig.barrier 1 rfl) rfl (by decide)) $$ [HO HtB Hgx Hgi Hgw]
  · isplitr; · iexact HR
    isplitl [HO]; · iexact HO
    isplitl [HtB]; · iexact HtB
    iapply (show iprop(((∃ f, landX (pr (pr c)) f) ∗ (∃ f, landI (pr (pr c)) f) ∗ (∃ f, landW (pr (pr c)) f))
      ∗ reached ER (at_ (pr (pr c)) (rcvL 1)) 0 ∗ reached ER (at_ (pr (pr c)) (rcvL 2)) 0 ∗ reached ER (at_ (pr (pr c)) (rcvL 3)) 0)
        ⊢ pay v (pr c) (barL 1) from .rfl)
    rw [pr_pr]
    isplitl [Hgx Hgi Hgw]
    · isplitl [Hgx]; · iexists fx; iexact Hgx
      isplitl [Hgi]; · iexists fi; iexact Hgi
      iexists fw; iexact Hgw
    isplitr; · iexact HrVx
    isplitr; · iexact HrVi
    iexact HrVw
  iintro HO
  iapply (step_wait v c (talk_bar 1) (inv_bar v c 1) (wpE_semWait_eq 𝒱₀ (c : Thread nD τ) none Set.univ) (by decide)
    (O := D + owed c (rcvL 3) + owed c (rcvL 2) + owed c (rcvL 1)) (W := W)
    (above_add (above_add (above_add (above_mono (by decide) hD) (above_owed c (rcvL 3) (by decide))) (above_owed c (rcvL 2) (by decide))) (above_owed c (rcvL 1) (by decide)))) $$ [HcB HO HaB]
  · isplitr; · iexact HR
    isplitr; · iexact Hl
    isplitl [HcB]; · iexact HcB
    isplitl [HO]; · iexact HO
    iexact HaB
  iintro ⟨HO, HaB, Hp⟩
  ihave Hp := (show pay v c (barL 1) ⊢ iprop(((∃ f, landX (pr c) f) ∗ (∃ f, landI (pr c) f) ∗ (∃ f, landW (pr c) f))
      ∗ reached ER (at_ (pr c) (rcvL 1)) 0 ∗ reached ER (at_ (pr c) (rcvL 2)) 0 ∗ reached ER (at_ (pr c) (rcvL 3)) 0) from .rfl) $$ Hp
  icases Hp with ⟨⟨⟨%fnx, Hnx⟩, ⟨%fni, Hni⟩, ⟨%fnw, Hnw⟩⟩, #HrNx, #HrNi, #HrNw⟩
  -- transfer 1
  unfold srcX
  iapply (wp_load 𝒱₀ (c : Thread nD τ) none Set.univ (m := xA) (Finset.subset_univ _)) $$ Hx
  iintro Hx
  iapply (wp_load_rect 𝒱₀ (c : Thread nD τ) none Set.univ (m := xB) (x_access c).le) $$ Hox
  iintro Hox
  iapply (wp_store 𝒱₀ (c : Thread nD τ) none Set.univ (m := xB) (Mk := Finset.univ) (x_access c).le) $$ Hox
  iintro Hox
  ihave Hox := (Entails.of_eq (x_stored v c fx _ (fun i j =>
    (x_pay _ i j).trans (congrFun (Memref.readAt_unit_zero (Elt F) cc1_stg0_0 hz2 _ (v.x c)) _)))) $$ Hox
  ihave Hnx := (Entails.of_eq (x_land c fnx)) $$ Hnx
  ihave Hx := (Entails.of_eq ((by unfold srcX; rfl : _ = srcX c (v.x c)).trans (x_src c (v.x c)))) $$ Hx
  iapply (step_send v c 1 (k1_dev2_pr c) (src := xA) (dst := xSlot c) rfl rfl (fs := v.x c) (fd := fnx) rfl
    (Entails.of_eq (x_src c (v.x c)).symm)
    (Entails.of_eq (x_landed v c fnx)) (O := D + owed c (rcvL 3) + owed c (rcvL 2))) $$ [Hx Hnx HO HtSx HtVx]
  · isplitr; · iexact HR
    isplitl [Hx]; · iexact Hx
    isplitl [Hnx]; · iexact Hnx
    isplitl [HO]; · iexact HO
    isplitl [HtSx]; · iexact HtSx
    isplitr; · iexact HrSx
    isplitl [HtVx]; · iexact HtVx
    iexact HrNx
  iintro ⟨HcSx, HO⟩
  -- transfer 2
  unfold srcI
  iapply (wp_load 𝒱₀ (c : Thread nD τ) none Set.univ (m := iA) (Finset.subset_univ _)) $$ Hi
  iintro Hi
  iapply (wp_load_rect 𝒱₀ (c : Thread nD τ) none Set.univ (m := iB) (i_access c).le) $$ Hoi
  iintro Hoi
  iapply (wp_store 𝒱₀ (c : Thread nD τ) none Set.univ (m := iB) (Mk := Finset.univ) (i_access c).le) $$ Hoi
  iintro Hoi
  ihave Hoi := (Entails.of_eq (i_stored v c fi _ (fun i j =>
    (i_pay _ i j).trans (congrFun (Memref.readAt_unit_zero (Elt F) cc1_stg1_0 hz2 _ (v.i c)) _)))) $$ Hoi
  ihave Hni := (Entails.of_eq (i_land c fni)) $$ Hni
  ihave Hi := (Entails.of_eq ((by unfold srcI; rfl : _ = srcI c (v.i c)).trans (i_src c (v.i c)))) $$ Hi
  iapply (step_send v c 2 (k1_dev3_pr c) (src := iA) (dst := iSlot c) rfl rfl (fs := v.i c) (fd := fni) rfl
    (Entails.of_eq (i_src c (v.i c)).symm)
    (Entails.of_eq (i_landed v c fni)) (O := D + owed c (rcvL 3))) $$ [Hi Hni HO HtSi HtVi]
  · isplitr; · iexact HR
    isplitl [Hi]; · iexact Hi
    isplitl [Hni]; · iexact Hni
    isplitl [HO]; · iexact HO
    isplitl [HtSi]; · iexact HtSi
    isplitr; · iexact HrSi
    isplitl [HtVi]; · iexact HtVi
    iexact HrNi
  iintro ⟨HcSi, HO⟩
  -- transfer 3
  unfold srcW
  iapply (wp_load 𝒱₀ (c : Thread nD τ) none Set.univ (m := wA) (Finset.subset_univ _)) $$ Hw
  iintro Hw
  iapply (wp_load_rect 𝒱₀ (c : Thread nD τ) none Set.univ (m := wB) (w_access c).le) $$ How
  iintro How
  iapply (wp_store 𝒱₀ (c : Thread nD τ) none Set.univ (m := wB) (Mk := Finset.univ) (w_access c).le) $$ How
  iintro How
  ihave How := (Entails.of_eq (w_stored v c fw _ (fun i j =>
    (w_pay _ i j).trans (congrFun (Memref.readAt_unit_zero (Elt F) cc1_stg2_0 hz2 _ (v.w c)) _)))) $$ How
  ihave Hnw := (Entails.of_eq (w_land c fnw)) $$ Hnw
  ihave Hw := (Entails.of_eq ((by unfold srcW; rfl : _ = srcW c (v.w c)).trans (w_src c (v.w c)))) $$ Hw
  iapply (step_send v c 3 (k1_dev4_pr c) (src := wA) (dst := wSlot c) rfl rfl (fs := v.w c) (fd := fnw) rfl
    (Entails.of_eq (w_src c (v.w c)).symm)
    (Entails.of_eq (w_landed v c fnw)) (O := D)) $$ [Hw Hnw HO HtSw HtVw]
  · isplitr; · iexact HR
    isplitl [Hw]; · iexact Hw
    isplitl [Hnw]; · iexact Hnw
    isplitl [HO]; · iexact HO
    isplitl [HtSw]; · iexact HtSw
    isplitr; · iexact HrSw
    isplitl [HtVw]; · iexact HtVw
    iexact HrNw
  iintro ⟨HcSw, HO⟩
  -- the waits: the sources come back, the partner's halves arrive
  iapply (step_wait v c (talk_snd 1) (inv_snd v c 1) (wpE_waitDma2_eq (src := xSlot c) (dst := xA) 𝒱₀ (c : Thread nD τ) none Set.univ) rfl (O := D) (above_mono (by decide) hD)) $$ [HcSx HO HaSx]
  · isplitr; · iexact HR
    isplitr; · iexact Hl
    isplitl [HcSx]; · iexact HcSx
    isplitl [HO]; · iexact HO
    iexact HaSx
  iintro ⟨HO, HaSx, Hx⟩
  ihave Hx := (show pay v c (sndL 1) ⊢ srcX c (v.x c) from .rfl) $$ Hx
  iapply (step_wait v c (talk_rcv 1) (inv_rcv v c 1) (wpE_waitDma2_eq (src := xA) (dst := xSlot c) 𝒱₀ (c : Thread nD τ) none Set.univ) (x_credit c) (O := D) hD) $$ [HcVx HO HaVx]
  · isplitr; · iexact HR
    isplitr; · iexact Hl
    isplitl [HcVx]; · iexact HcVx
    isplitl [HO]; · iexact HO
    iexact HaVx
  iintro ⟨HO, HaVx, Hyx⟩
  ihave Hyx := (show pay v c (rcvL 1) ⊢ landX c (stk v.x c) from .rfl) $$ Hyx
  iapply (step_wait v c (talk_snd 2) (inv_snd v c 2) (wpE_waitDma2_eq (src := iSlot c) (dst := iA) 𝒱₀ (c : Thread nD τ) none Set.univ) rfl (O := D) (above_mono (by decide) hD)) $$ [HcSi HO HaSi]
  · isplitr; · iexact HR
    isplitr; · iexact Hl
    isplitl [HcSi]; · iexact HcSi
    isplitl [HO]; · iexact HO
    iexact HaSi
  iintro ⟨HO, HaSi, Hi⟩
  ihave Hi := (show pay v c (sndL 2) ⊢ srcI c (v.i c) from .rfl) $$ Hi
  iapply (step_wait v c (talk_rcv 2) (inv_rcv v c 2) (wpE_waitDma2_eq (src := iA) (dst := iSlot c) 𝒱₀ (c : Thread nD τ) none Set.univ) (i_credit c) (O := D) hD) $$ [HcVi HO HaVi]
  · isplitr; · iexact HR
    isplitr; · iexact Hl
    isplitl [HcVi]; · iexact HcVi
    isplitl [HO]; · iexact HO
    iexact HaVi
  iintro ⟨HO, HaVi, Hyi⟩
  ihave Hyi := (show pay v c (rcvL 2) ⊢ landI c (stk v.i c) from .rfl) $$ Hyi
  iapply (step_wait v c (talk_snd 3) (inv_snd v c 3) (wpE_waitDma2_eq (src := wSlot c) (dst := wA) 𝒱₀ (c : Thread nD τ) none Set.univ) rfl (O := D) (above_mono (by decide) hD)) $$ [HcSw HO HaSw]
  · isplitr; · iexact HR
    isplitr; · iexact Hl
    isplitl [HcSw]; · iexact HcSw
    isplitl [HO]; · iexact HO
    iexact HaSw
  iintro ⟨HO, HaSw, Hw⟩
  ihave Hw := (show pay v c (sndL 3) ⊢ srcW c (v.w c) from .rfl) $$ Hw
  iapply (step_wait v c (talk_rcv 3) (inv_rcv v c 3) (wpE_waitDma2_eq (src := wA) (dst := wSlot c) 𝒱₀ (c : Thread nD τ) none Set.univ) (w_credit c) (O := D) hD) $$ [HcVw HO HaVw]
  · isplitr; · iexact HR
    isplitr; · iexact Hl
    isplitl [HcVw]; · iexact HcVw
    isplitl [HO]; · iexact HO
    iexact HaVw
  iintro ⟨HO, HaVw, Hyw⟩
  ihave Hyw := (show pay v c (rcvL 3) ⊢ landW c (stk v.w c) from .rfl) $$ Hyw
  rw [wp_ret]
  imod (close_at v c (inv_bar v c 1)) $$ [HaB] with Hb0
  · isplitr; · iexact HR
    iexact HaB
  imod (close_at v c (inv_snd v c 1)) $$ [HaSx] with Hsx
  · isplitr; · iexact HR
    iexact HaSx
  imod (close_at v c (inv_rcv v c 1)) $$ [HaVx] with Hvx
  · isplitr; · iexact HR
    iexact HaVx
  imod (close_at v c (inv_snd v c 2)) $$ [HaSi] with Hsi
  · isplitr; · iexact HR
    iexact HaSi
  imod (close_at v c (inv_rcv v c 2)) $$ [HaVi] with Hvi
  · isplitr; · iexact HR
    iexact HaVi
  imod (close_at v c (inv_snd v c 3)) $$ [HaSw] with Hsw
  · isplitr; · iexact HR
    iexact HaSw
  imod (close_at v c (inv_rcv v c 3)) $$ [HaVw] with Hvw
  · isplitr; · iexact HR
    iexact HaVw
  imodintro
  iapply Hk
  unfold post1
  isplitl [Hb0]; · iexact Hb0
  isplitl [Hsx Hsi Hsw]
  · isplitl [Hsx]; · iexact Hsx
    isplitl [Hsi]; · iexact Hsi
    iexact Hsw
  isplitl [Hvx Hvi Hvw]
  · isplitl [Hvx]; · iexact Hvx
    isplitl [Hvi]; · iexact Hvi
    iexact Hvw
  isplitl [Hx Hi Hw]
  · isplitl [Hx]; · iexact Hx
    isplitl [Hi]; · iexact Hi
    iexact Hw
  isplitl [Hox Hyx Hoi Hyi How Hyw]
  · isplitl [Hox Hyx]
    · iapply (x_split c (stk v.x c)).2
      isplitl [Hox]; · iexact Hox
      iexact Hyx
    isplitl [Hoi Hyi]
    · iapply (i_split c (stk v.i c)).2
      isplitl [Hoi]; · iexact Hoi
      iexact Hyi
    iapply (w_split c (stk v.w c)).2
    isplitl [How]; · iexact How
    iexact Hyw
  iexists _; iexact HO

end Cert.Moe

end
-- ==== Proof.Body3.lean ====
/-
  The body of the combining kernel: each device sends the partner's half of its partial sums and adds what it receives to its own.
-/
module

public import proofs.«01_k».proof.Proof.Body0

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev pB : Memref sig .tc .vmem S2x512x1024 .bf16 := Memref.whole cc3_stg0_0
abbrev pS : Memref sig .tc .vmem S512x1024 .bf16 := Memref.whole cc3_scratch0
abbrev pO : Memref sig .tc .vmem S512x1024 .f32 := Memref.whole cc3_stg1_0

theorem p_access (c : Dev nD) :
    (pB.access (Rect.unit (s := S2x512x1024) (k3_off2 c) S1x512x1024.size (k3_off2_inb c)) : View sig .tc _ _ _).set = half 512 1024 (xc c) :=
  (View.set_slice_whole _ _).trans (slot_set (k3_off2_slot c) _)

abbrev pSlot (c : Dev nD) : Memref sig .tc .vmem S512x1024 .bf16 :=
  (pB.slice (Rect.unit (s := S2x512x1024) (k3_off1 c) S1x512x1024.size (k3_off1_inb c)) (fun _ => rfl)).squeeze S512x1024 squeezes_S1x512x1024_S512x1024

theorem p_slot (c : Dev nD) : (pSlot c).view.set = half 512 1024 (xc (pr c)) :=
  (Memref.set_view_squeeze _ _).trans ((View.set_slice_whole _ _).trans (slot_set (k3_off1_slot c) _))

theorem p_src (c : Dev nD) (f : (Two 512 1024).Idx → Elt F .bf16) :
    (srcP c f) = ((pSlot c).view.loc (c : Thread nD τ) ↦[(pSlot c).view.set]{fullShare} f : sProp 𝕄) := by
  unfold srcP; rw [p_slot]

theorem p_land (c : Dev nD) (f : (Mat 512 1024).Idx → Elt F .bf16) :
    (landP (F := F) c f) = (pS.view.loc (c : Thread nD τ) ↦[pS.view.set]{fullShare} f : sProp 𝕄) := by
  unfold landP; rw [View.set_whole]

theorem p_landed (v : Vals F) (c : Dev nD) (f : (Mat 512 1024).Idx → Elt F .bf16) :
    (pS.view.loc (pr c : Thread nD τ) ↦[pS.view.set]{fullShare}
        (pS.view.write (Elt F) f ((pSlot c).view.read (Elt F) (v.p c)) Finset.univ) : sProp 𝕄)
      = landP (pr c) (part (v.p (pr (pr c))) (xc (pr c))) := by
  rw [p_land, pr_pr]
  refine pointsTo_congr (agree_of_read pS.view f _ _ fun y => ?_)
  rw [show y = ix2 (y 0) (y 1) from eq_ix2 y]
  exact (read_slot pB (k3_off1_slot c) (k3_off1_inb c) _ _ (v.p c) (y 0) (y 1)).symm

theorem p_credit (c : Dev nD) : (pSlot c).view.dmaCredit = amt (sndL 4) := rfl

/-- The own half of the partial sums, as loaded. -/
def ownHalf (v : Vals F) (c : Dev nD) : (One 512 1024).Idx → Elt F .bf16 := fun i => v.p c (ix3 (xc c) (i 1) (i 2))

theorem p_read (v : Vals F) (c : Dev nD) :
    (pB.access (Rect.unit (s := S2x512x1024) (k3_off2 c) S1x512x1024.size (k3_off2_inb c)) : View sig .tc _ _ _).read (Elt F) (v.p c) = ownHalf v c := by
  funext y
  have hy : y = (ix3 (0 : Fin 1) (y 1) (y 2) : (One 512 1024).Idx) := by
    funext a; fin_cases a
    · exact Fin.ext (Nat.lt_one_iff.mp (y 0).isLt)
    · rfl
    · rfl
  rw [hy]
  exact congrArg (v.p c) (slot_emb (k3_off2_slot c) (k3_off2_inb c) (y 1) (y 2))

/-- What the combining kernel leaves in its result. -/
def comb (v : Vals F) (c : Dev nD) : (Mat 512 1024).Idx → Elt F .f32 := k3_pay1 (F := F) (ownHalf v c) (part (v.p (pr c)) (xc c))

/-- The buffer is its two halves. -/
theorem p_split (c : Dev nD) (f : (Two 512 1024).Idx → Elt F .bf16) :
    ((c : Thread nD τ).loc cc3_stg0_0 ↦{fullShare} f : sProp 𝕄)
      ⊣⊢ iprop(((c : Thread nD τ).loc cc3_stg0_0 ↦[half 512 1024 (xc c)]{fullShare} f) ∗ srcP c f) := by
  unfold srcP
  have h := pointsTo_union (ℓ := (c : Thread nD τ).loc cc3_stg0_0) (q := fullShare) (f := f) (half_disjoint (n := 512) (k := 1024) (xc_pr_ne c).symm)
    (Ix := Unit) (Val := Elt F) (Name := ℕ) (U := UU) (Lvl := ℕ)
  rw [half_union] at h
  exact h

/-- What a device brings to the combination. -/
def pre3 (v : Vals F) (c : Dev nD) (D : CellTallies nD τ sig Unit) (W : Waits sig Unit) (f : (Mat 512 1024).Idx → Elt F .f32)
    (g : (Mat 512 1024).Idx → Elt F .bf16) : sProp 𝕄 :=
  iprop(Rec v ∗ levAts L lv ∗ barKit 2 c ∗ moveKit 4 c ∗ ((c : Thread nD τ).loc cc3_stg0_0 ↦{fullShare} v.p c)
    ∗ ((c : Thread nD τ).loc cc3_stg1_0 ↦{fullShare} f) ∗ landP c g
    ∗ owes (c : Thread nD τ) (D + owed c (rcvL 4) + owed c (barL 2)) W)
/-- What it leaves with: its tokens' sums over both devices, and the counters at zero. -/
def post3 (v : Vals F) (c : Dev nD) (D : CellTallies nD τ sig Unit) : sProp 𝕄 :=
  iprop(semVal (at_ c (barL 2)) 0 ∗ semVal (at_ c (sndL 4)) 0 ∗ semVal (at_ c (rcvL 4)) 0
    ∗ ((c : Thread nD τ).loc cc3_stg0_0 ↦{fullShare} v.p c)
    ∗ ((c : Thread nD τ).loc cc3_stg1_0 ↦{fullShare} (comb v c)) ∗ (∃ g, landP c g) ∗ ∃ W, owes (c : Thread nD τ) D W)

set_option maxHeartbeats 1600000 in
theorem body3 (v : Vals F) (c : Dev nD) (D : CellTallies nD τ sig Unit) (hD : Above 6 D) (W : Waits sig Unit) (f : (Mat 512 1024).Idx → Elt F .f32)
    (g : (Mat 512 1024).Idx → Elt F .bf16) (Kt : PUnit → sProp 𝕄) :
    iprop(pre3 v c D W f g ∗ (post3 v c D -∗ Kt ⟨⟩))
      ⊢ wp frame (wpE (defs₀ (F := F)) 𝒱₀ (c : Thread nD τ) none) Set.univ
          (cc3_body (F := F) (Memref.whole cc3_stg0_0) (Memref.isWhole_whole _) (Memref.whole cc3_stg1_0) (Memref.isWhole_whole _)
            (Memref.whole cc3_scratch0) (Memref.isWhole_whole _) cc3_scratch1 cc3_scratch2) Kt := by
  simp only [cc3_body_eq_skeleton]; unfold cc3_body_skel
  simp only [k3_part1_eq_skeleton]; unfold k3_part1_skel
  simp only [semSignalWord, semWaitWord, Prog.lift, Prog.bind_op, Prog.bind_ret, Prog.pure_eq_ret, wp_deviceId]
  unfold pre3 barKit moveKit
  iintro ⟨⟨#HR, #Hl, ⟨HaB, HtB, HcB⟩, ⟨⟨HaS, #HrS⟩, ⟨HaV, #HrV⟩, HtS, HtV, HcV⟩, Hx, Hy, Hg, HO⟩, Hk⟩
  ihave Hx := (p_split c (v.p c)).1 $$ Hx
  icases Hx with ⟨Hown, Hsrc⟩
  iapply (step_signal v c 2 (k3_dev1_pr c) (sem := sig.barrier 2 rfl) rfl (by decide)) $$ [HO HtB Hg]
  · isplitr; · iexact HR
    isplitl [HO]; · iexact HO
    isplitl [HtB]; · iexact HtB
    iapply (show iprop((∃ f, landP (pr (pr c)) f) ∗ reached ER (at_ (pr (pr c)) (rcvL 4)) 0) ⊢ pay v (pr c) (barL 2) from .rfl)
    rw [pr_pr]
    isplitl [Hg]; · iexists g; iexact Hg
    iexact HrV
  iintro HO
  iapply (step_wait v c (talk_bar 2) (inv_bar v c 2) (wpE_semWait_eq 𝒱₀ (c : Thread nD τ) none Set.univ) (by decide)
    (O := D + owed c (rcvL 4)) (W := W) (above_add (above_mono (by decide) hD) (above_owed c (rcvL 4) (by decide)))) $$ [HcB HO HaB]
  · isplitr; · iexact HR
    isplitr; · iexact Hl
    isplitl [HcB]; · iexact HcB
    isplitl [HO]; · iexact HO
    iexact HaB
  iintro ⟨HO, HaB, Hp⟩
  ihave Hp := (show pay v c (barL 2) ⊢ iprop((∃ f, landP (pr c) f) ∗ reached ER (at_ (pr c) (rcvL 4)) 0) from .rfl) $$ Hp
  icases Hp with ⟨⟨%fn, Hn⟩, #HrN⟩
  ihave Hn := (Entails.of_eq (p_land (pr c) fn)) $$ Hn
  ihave Hsrc := (Entails.of_eq (p_src c (v.p c))) $$ Hsrc
  iapply (step_send v c 4 (k3_dev2_pr c) (src := pSlot c) (dst := pS) rfl rfl (fs := v.p c) (fd := fn) rfl
    (Entails.of_eq (p_src c (v.p c)).symm)
    (Entails.of_eq (p_landed v c fn)) (O := D)) $$ [Hsrc Hn HO HtS HtV]
  · isplitr; · iexact HR
    isplitl [Hsrc]; · iexact Hsrc
    isplitl [Hn]; · iexact Hn
    isplitl [HO]; · iexact HO
    isplitl [HtS]; · iexact HtS
    isplitr; · iexact HrS
    isplitl [HtV]; · iexact HtV
    iexact HrN
  iintro ⟨HcS, HO⟩
  iapply (step_wait v c (talk_snd 4) (inv_snd v c 4) (wpE_waitDma2_eq (src := pS) (dst := pSlot c) 𝒱₀ (c : Thread nD τ) none Set.univ) (p_credit c) (O := D) (above_mono (by decide) hD)) $$ [HcS HO HaS]
  · isplitr; · iexact HR
    isplitr; · iexact Hl
    isplitl [HcS]; · iexact HcS
    isplitl [HO]; · iexact HO
    iexact HaS
  iintro ⟨HO, HaS, Hsrc⟩
  ihave Hsrc := (show pay v c (sndL 4) ⊢ srcP c (v.p c) from .rfl) $$ Hsrc
  iapply (step_wait v c (talk_rcv 4) (inv_rcv v c 4) (wpE_waitDma2_eq (src := pSlot c) (dst := pS) 𝒱₀ (c : Thread nD τ) none Set.univ) rfl (O := D) hD) $$ [HcV HO HaV]
  · isplitr; · iexact HR
    isplitr; · iexact Hl
    isplitl [HcV]; · iexact HcV
    isplitl [HO]; · iexact HO
    iexact HaV
  iintro ⟨HO, HaV, Hg⟩
  ihave Hg := (show pay v c (rcvL 4) ⊢ landP c (part (v.p (pr c)) (xc c)) from .rfl) $$ Hg
  unfold landP
  iapply (wp_load_rect 𝒱₀ (c : Thread nD τ) none Set.univ (m := pB) (p_access c).le) $$ Hown
  iintro Hown
  iapply (wp_load 𝒱₀ (c : Thread nD τ) none Set.univ (m := pS) (Finset.subset_univ _)) $$ Hg
  iintro Hg
  iapply (wp_load 𝒱₀ (c : Thread nD τ) none Set.univ (m := pO) (Finset.subset_univ _)) $$ Hy
  iintro Hy
  iapply (wp_store 𝒱₀ (c : Thread nD τ) none Set.univ (m := pO)
    (r := Rect.unit (s := S512x1024) ![0, 0] S512x1024.size inb_S512x1024_S512x1024_0_0) (Mk := Finset.univ) (Finset.subset_univ _)) $$ Hy
  iintro Hy
  ihave Hy := (Entails.of_eq (congrArg (fun z => ((c : Thread nD τ).loc cc3_stg1_0 ↦{fullShare} z : sProp 𝕄))
    ((Memref.write_access_unit_zero_univ (Elt F) cc3_stg1_0 hz2 _ f _).trans (congrArg₂ k3_pay1 (p_read v c)
      (Memref.readAt_unit_zero (Elt F) cc3_scratch0 hz2 _ (part (v.p (pr c)) (xc c))))))) $$ Hy
  rw [wp_ret]
  imod (close_at v c (inv_bar v c 2)) $$ [HaB] with Hb0
  · isplitr; · iexact HR
    iexact HaB
  imod (close_at v c (inv_snd v c 4)) $$ [HaS] with Hs0
  · isplitr; · iexact HR
    iexact HaS
  imod (close_at v c (inv_rcv v c 4)) $$ [HaV] with Hv0
  · isplitr; · iexact HR
    iexact HaV
  imodintro
  iapply Hk
  unfold post3
  isplitl [Hb0]; · iexact Hb0
  isplitl [Hs0]; · iexact Hs0
  isplitl [Hv0]; · iexact Hv0
  isplitl [Hown Hsrc]
  · iapply (p_split c (v.p c)).2
    isplitl [Hown]; · iexact Hown
    iexact Hsrc
  isplitl [Hy]; · iexact Hy
  isplitl [Hg]; · iexists _; unfold landP; iexact Hg
  iexists _; iexact HO

end Cert.Moe

end
-- ==== Proof.Ffn.lean ====
/-
  The body of the expert kernel: at each grid point one expert's weighted output for every token is added to the running sum.
-/
module

public import Idealize.ShloMosaic.Lib.VecWindow
public import proofs.«01_k».proof.Proof.Steps
public import proofs.«01_k».proof.Proof.Gen.KernelIdeal.Skeleton
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Loading a whole buffer reads what it holds. -/
theorem load_all (c : Dev nD) {s : Shape} {e : EltTy} (a : Memref sig .tc .vmem s e) (ha : a.IsWhole) (X : s.Idx → Elt F e)
    {off : Fin s.rank → ℕ} (inb : ∀ a, off a + s.size a ≤ s.size a)
    {hl : a.view.LoadsAt (Rect.unit (s := s) off s.size inb).toLoadRect} {α : Type} {Q : α → sProp 𝕄}
    {k : (s.Idx → Elt F e) → Prog (TpuEff nD τ sig (Elt F) Λ₀ .tc) α} :
    (owns (c : Thread nD τ) a fullShare X : sProp 𝕄)
      ⊢ iprop((owns (c : Thread nD τ) a fullShare X -∗ wp frame (wpE (defs₀ (F := F)) 𝒱₀ (c : Thread nD τ) none) Set.univ (k X) Q)
        -∗ wp frame (wpE (defs₀ (F := F)) 𝒱₀ (c : Thread nD τ) none) Set.univ (.op (.load a (Rect.unit (s := s) off s.size inb).toLoadRect hl) k) Q) := by
  unfold owns
  iintro ⟨%f, %hf, H⟩ Hk
  iapply (wp_load 𝒱₀ (c : Thread nD τ) none Set.univ (m := a) (by rw [ha.set_eq_univ]; exact Finset.subset_univ _)) $$ H
  iintro H
  rw [show a.view.readAt (Elt F) (Rect.unit (s := s) off s.size inb).toLoadRect f = X from (View.readAt_full a.view f inb).trans hf]
  iapply Hk
  iexists f
  isplitr; · ipureintro; exact hf
  iexact H

/-- Storing a whole buffer replaces what it holds. -/
theorem store_all (c : Dev nD) {s : Shape} {e : EltTy} (a : Memref sig .tc .vmem s e) (ha : a.IsWhole) (X w : s.Idx → Elt F e)
    {off : Fin s.rank → ℕ} (inb : ∀ a, off a + s.size a ≤ s.size a)
    {hx : (a.access (Rect.unit (s := s) off s.size inb)).Stores Finset.univ} {hm} {α : Type} {Q : α → sProp 𝕄}
    {k : PUnit → Prog (TpuEff nD τ sig (Elt F) Λ₀ .tc) α} :
    (owns (c : Thread nD τ) a fullShare X : sProp 𝕄)
      ⊢ iprop((owns (c : Thread nD τ) a fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store a (Rect.unit (s := s) off s.size inb) w Finset.univ hx hm) k) Q) := by
  unfold owns
  iintro ⟨%f, %hf, H⟩ Hk
  iapply (wp_store 𝒱₀ (c : Thread nD τ) none Set.univ (m := a) (r := Rect.unit off s.size inb) (Mk := Finset.univ)
    (by rw [ha.set_eq_univ]; exact Finset.subset_univ _)) $$ H
  iintro H
  iapply Hk
  iexists _
  isplitr
  · ipureintro; exact View.read_writes_full a.view f inb w []
  iexact H

/-- At the first expert the sum starts as its weighted output. -/
theorem body2_first (c : Dev nD) (i : grid2.Coords) (h1 : k2_cond1 i = 1#1) (h2 : ¬ k2_cond2 i = 1#1)
    (a1 : Memref sig .tc .vmem S1024x1024 .bf16) (e1 : a1.IsWhole) (a2 : Memref sig .tc .vmem S1x1024x2048 .bf16) (e2 : a2.IsWhole)
    (a3 : Memref sig .tc .vmem S1x2048x1024 .bf16) (e3 : a3.IsWhole) (a4 : Memref sig .tc .vmem S1024x4 .f32) (e4 : a4.IsWhole)
    (a5 : Memref sig .tc .vmem S1024x1024 .f32) (e5 : a5.IsWhole)
    (x : Vec F S1024x1024 .bf16) (u : Vec F S1x1024x2048 .bf16) (d : Vec F S1x2048x1024 .bf16) (g : Vec F S1024x4 .f32) (s : Vec F S1024x1024 .f32)
    (Kt : PUnit → sProp 𝕄) :
    iprop((owns (c : Thread nD τ) a1 fullShare x ∗ owns (c : Thread nD τ) a2 fullShare u ∗ owns (c : Thread nD τ) a3 fullShare d
        ∗ owns (c : Thread nD τ) a4 fullShare g ∗ owns (c : Thread nD τ) a5 fullShare s)
      ∗ ((owns (c : Thread nD τ) a1 fullShare x ∗ owns (c : Thread nD τ) a2 fullShare u ∗ owns (c : Thread nD τ) a3 fullShare d
        ∗ owns (c : Thread nD τ) a4 fullShare g ∗ owns (c : Thread nD τ) a5 fullShare (k2_pay1 i x u d g)) -∗ Kt ⟨⟩))
      ⊢ wp frame (wpE (defs₀ (F := F)) 𝒱₀ (c : Thread nD τ) none) Set.univ (cc2_body (F := F) i a1 e1 a2 e2 a3 e3 a4 e4 a5 e5) Kt := by
  simp only [cc2_body_eq_skeleton]; unfold cc2_body_skel
  simp only [Prog.lift, Prog.bind_op, Prog.bind_ret, Prog.pure_eq_ret, dif_pos h1, dif_neg h2]
  iintro ⟨⟨H1, H2, H3, H4, H5⟩, Hk⟩
  iapply (load_all c a1 e1 _ _) $$ H1
  iintro H1
  iapply (load_all c a2 e2 _ _) $$ H2
  iintro H2
  iapply (load_all c a3 e3 _ _) $$ H3
  iintro H3
  iapply (load_all c a4 e4 _ _) $$ H4
  iintro H4
  iapply (load_all c a5 e5 _ _) $$ H5
  iintro H5
  iapply (store_all c a5 e5 _ _ _) $$ H5
  iintro H5
  rw [wp_ret]
  imodintro
  iapply Hk
  isplitl [H1]; · iexact H1
  isplitl [H2]; · iexact H2
  isplitl [H3]; · iexact H3
  isplitl [H4]; · iexact H4
  iexact H5

/-- At every later expert its weighted output is added to the sum. -/
theorem body2_next (c : Dev nD) (i : grid2.Coords) (h1 : ¬ k2_cond1 i = 1#1) (h2 : k2_cond2 i = 1#1)
    (a1 : Memref sig .tc .vmem S1024x1024 .bf16) (e1 : a1.IsWhole) (a2 : Memref sig .tc .vmem S1x1024x2048 .bf16) (e2 : a2.IsWhole)
    (a3 : Memref sig .tc .vmem S1x2048x1024 .bf16) (e3 : a3.IsWhole) (a4 : Memref sig .tc .vmem S1024x4 .f32) (e4 : a4.IsWhole)
    (a5 : Memref sig .tc .vmem S1024x1024 .f32) (e5 : a5.IsWhole)
    (x : Vec F S1024x1024 .bf16) (u : Vec F S1x1024x2048 .bf16) (d : Vec F S1x2048x1024 .bf16) (g : Vec F S1024x4 .f32) (s : Vec F S1024x1024 .f32)
    (Kt : PUnit → sProp 𝕄) :
    iprop((owns (c : Thread nD τ) a1 fullShare x ∗ owns (c : Thread nD τ) a2 fullShare u ∗ owns (c : Thread nD τ) a3 fullShare d
        ∗ owns (c : Thread nD τ) a4 fullShare g ∗ owns (c : Thread nD τ) a5 fullShare s)
      ∗ ((owns (c : Thread nD τ) a1 fullShare x ∗ owns (c : Thread nD τ) a2 fullShare u ∗ owns (c : Thread nD τ) a3 fullShare d
        ∗ owns (c : Thread nD τ) a4 fullShare g ∗ owns (c : Thread nD τ) a5 fullShare (k2_pay2 i x u d g s)) -∗ Kt ⟨⟩))
      ⊢ wp frame (wpE (defs₀ (F := F)) 𝒱₀ (c : Thread nD τ) none) Set.univ (cc2_body (F := F) i a1 e1 a2 e2 a3 e3 a4 e4 a5 e5) Kt := by
  simp only [cc2_body_eq_skeleton]; unfold cc2_body_skel
  simp only [Prog.lift, Prog.bind_op, Prog.bind_ret, Prog.pure_eq_ret, dif_pos h2, dif_neg h1]
  iintro ⟨⟨H1, H2, H3, H4, H5⟩, Hk⟩
  iapply (load_all c a1 e1 _ _) $$ H1
  iintro H1
  iapply (load_all c a2 e2 _ _) $$ H2
  iintro H2
  iapply (load_all c a3 e3 _ _) $$ H3
  iintro H3
  iapply (load_all c a4 e4 _ _) $$ H4
  iintro H4
  iapply (load_all c a5 e5 _ _) $$ H5
  iintro H5
  iapply (load_all c a5 e5 _ _) $$ H5
  iintro H5
  iapply (store_all c a5 e5 _ _ _) $$ H5
  iintro H5
  rw [wp_ret]
  imodintro
  iapply Hk
  isplitl [H1]; · iexact H1
  isplitl [H2]; · iexact H2
  isplitl [H3]; · iexact H3
  isplitl [H4]; · iexact H4
  iexact H5

end Cert.Moe
-- ==== Proof.Chain.lean ====
/-
  What every buffer holds between the steps of the program, named from the launch contents; and, per kernel, what its
  staging buffers hold before and after its body.
-/
module

public import proofs.«01_k».proof.Proof.Body1
public import proofs.«01_k».proof.Proof.Body3
public import proofs.«01_k».proof.Proof.Ffn
public import proofs.«01_k».proof.Proof.Gen.KernelIdeal.Regions
public import Idealize.ShloMosaic.Lib.Pipeline.RegionTalk

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-- Device `c`'s buffers at launch. -/
def W0 (c : Dev nD) : Valuation τ sig (Elt F) := fun b => m (c, b)
/-- After the first host stretch. -/
def W1 (c : Dev nD) : Valuation τ sig (Elt F) := StableHlo.after (hostOps0 c) (W0 m c)
/-- The router columns a device brings. -/
def vr (c : Dev nD) : (Mat 1024 4).Idx → Elt F .bf16 := W1 m c main_arg1
/-- After the exchange of the router columns. -/
def W2 (c : Dev nD) : Valuation τ sig (Elt F) := Function.update (W1 m c) main_v5 (stk (vr m) c)
/-- After routing. -/
def W3 (c : Dev nD) : Valuation τ sig (Elt F) := StableHlo.after hostOps1 (W2 m c)
/-- The tokens, chosen experts and weights a device brings. -/
def vx (c : Dev nD) : (Mat 512 1024).Idx → Elt F .bf16 := W3 m c main_arg0
def vi (c : Dev nD) : (Mat 512 2).Idx → Elt F .i32 := W3 m c main_indices
def vw (c : Dev nD) : (Mat 512 2).Idx → Elt F .f32 := W3 m c main_v26
/-- After the exchange of tokens, choices and weights. -/
def W4 (c : Dev nD) : Valuation τ sig (Elt F) :=
  Function.update (Function.update (Function.update (W3 m c) main_v27_0 (stk (vx m) c)) main_v27_1 (stk (vi m) c)) main_v27_2 (stk (vw m) c)
/-- Before the expert kernel. -/
def W5 (c : Dev nD) : Valuation τ sig (Elt F) := StableHlo.after hostOps2 (W4 m c)

/-- What the expert kernel reads at a grid point: the tokens, the expert's two matrices, the dense weights. -/
def xIn (c : Dev nD) (t : Fin cfg2.N) : Vec F S1024x1024 .bf16 := (win2_0.blk t).view.read (Elt F) (W5 m c main_v44)
def uIn (c : Dev nD) (t : Fin cfg2.N) : Vec F S1x1024x2048 .bf16 := (win2_1.blk t).view.read (Elt F) (W5 m c main_arg2)
def dIn (c : Dev nD) (t : Fin cfg2.N) : Vec F S1x2048x1024 .bf16 := (win2_2.blk t).view.read (Elt F) (W5 m c main_arg3)
def gIn (c : Dev nD) (t : Fin cfg2.N) : Vec F S1024x4 .f32 := (win2_3.blk t).view.read (Elt F) (W5 m c main_v43)

/-- The running sum after expert `n`. -/
def acc (c : Dev nD) : (n : ℕ) → n < cfg2.N → Vec F S1024x1024 .f32
  | 0, h => k2_pay1 (grid2.coords ⟨0, h⟩) (xIn m c ⟨0, h⟩) (uIn m c ⟨0, h⟩) (dIn m c ⟨0, h⟩) (gIn m c ⟨0, h⟩)
  | n + 1, h => k2_pay2 (grid2.coords ⟨n + 1, h⟩) (xIn m c ⟨n + 1, h⟩) (uIn m c ⟨n + 1, h⟩) (dIn m c ⟨n + 1, h⟩) (gIn m c ⟨n + 1, h⟩)
      (acc c n (Nat.lt_of_succ_lt h))

/-- The pair's tokens, summed over the device's experts. -/
def accLast (c : Dev nD) : Vec F S1024x1024 .f32 := acc m c 3 t2_3.isLt
/-- After the expert kernel. -/
def W6 (c : Dev nD) : Valuation τ sig (Elt F) := Function.update (W5 m c) main_v45 (accLast m c)
/-- Before the combination. -/
def W7 (c : Dev nD) : Valuation τ sig (Elt F) := StableHlo.after hostOps3 (W6 m c)
/-- The partial sums a device brings. -/
def vp (c : Dev nD) : (Two 512 1024).Idx → Elt F .bf16 := W7 m c main_v47

/-- Everything the devices exchange. -/
def vals : Vals F := ⟨vr m, vx m, vi m, vw m, vp m⟩

/-- After the combination. -/
def W8 (c : Dev nD) : Valuation τ sig (Elt F) := Function.update (W7 m c) main_v48 (comb (vals m) c)

/-! ## The kernels' data -/

/-- The scoped buffers a kernel's windows do not stage, and the generator register. -/
abbrev rest (p : Fin 4) (c : Dev nD) : sProp 𝕄 :=
  iprop(Pipeline.scopedRest (Ix := Unit) (Name := ℕ) (U := UU) (Lvl := ℕ) (Val := Elt F) (cfgs p).spec c ∗ ∃ r, prngReg c r)

/-- The exchange of the router columns. -/
def dat0 (c : Dev nD) : Dat τ (Elt F) Unit ℕ UU ℕ cfg0 c where
  A w := match w with
    | ⟨0, _⟩ => W1 m c main_arg1
    | ⟨1, _⟩ => W1 m c main_v5
  after w _ := match w with
    | ⟨0, _⟩ => vr m c
    | ⟨1, _⟩ => stk (vr m) c
  Φ t := if t.val = 0 then iprop((Rec (vals m) ∗ levAts L lv ∗ barKit 0 c ∗ moveKit 0 c) ∗ rest 0 c)
    else iprop((semVal (at_ c (barL 0)) 0 ∗ semVal (at_ c (sndL 0)) 0 ∗ semVal (at_ c (rcvL 0)) 0) ∗ rest 0 c)
  q _ := fullShare
  owed t := if t.val = 0 then due1 c + due3 c + due0 c else due1 c + due3 c

/-- The exchange of tokens, choices and weights. -/
def dat1 (c : Dev nD) : Dat τ (Elt F) Unit ℕ UU ℕ cfg1 c where
  A w := match w with
    | ⟨0, _⟩ => W3 m c main_arg0
    | ⟨1, _⟩ => W3 m c main_indices
    | ⟨2, _⟩ => W3 m c main_v26
    | ⟨3, _⟩ => W3 m c main_v27_0
    | ⟨4, _⟩ => W3 m c main_v27_1
    | ⟨5, _⟩ => W3 m c main_v27_2
  after w _ := match w with
    | ⟨0, _⟩ => vx m c
    | ⟨1, _⟩ => vi m c
    | ⟨2, _⟩ => vw m c
    | ⟨3, _⟩ => stk (vx m) c
    | ⟨4, _⟩ => stk (vi m) c
    | ⟨5, _⟩ => stk (vw m) c
  Φ t := if t.val = 0 then iprop((Rec (vals m) ∗ levAts L lv ∗ barKit 1 c ∗ moveKit 1 c ∗ moveKit 2 c ∗ moveKit 3 c) ∗ rest 1 c)
    else iprop((semVal (at_ c (barL 1)) 0 ∗ (semVal (at_ c (sndL 1)) 0 ∗ semVal (at_ c (sndL 2)) 0 ∗ semVal (at_ c (sndL 3)) 0)
      ∗ (semVal (at_ c (rcvL 1)) 0 ∗ semVal (at_ c (rcvL 2)) 0 ∗ semVal (at_ c (rcvL 3)) 0)) ∗ rest 1 c)
  q _ := fullShare
  owed t := if t.val = 0 then due3 c + due1 c else due3 c

/-- The expert kernel. -/
def dat2 (c : Dev nD) : Dat τ (Elt F) Unit ℕ UU ℕ cfg2 c where
  A w := match w with
    | ⟨0, _⟩ => W5 m c main_v44
    | ⟨1, _⟩ => W5 m c main_arg2
    | ⟨2, _⟩ => W5 m c main_arg3
    | ⟨3, _⟩ => W5 m c main_v43
    | ⟨4, _⟩ => W5 m c main_v45
  after w t := match w with
    | ⟨0, _⟩ => xIn m c t
    | ⟨1, _⟩ => uIn m c t
    | ⟨2, _⟩ => dIn m c t
    | ⟨3, _⟩ => gIn m c t
    | ⟨4, _⟩ => acc m c t.val t.isLt
  Φ _ := rest 2 c
  q _ := fullShare
  owed _ := due3 c

/-- The combination. -/
def dat3 (c : Dev nD) : Dat τ (Elt F) Unit ℕ UU ℕ cfg3 c where
  A w := match w with
    | ⟨0, _⟩ => W7 m c main_v47
    | ⟨1, _⟩ => W7 m c main_v48
  after w _ := match w with
    | ⟨0, _⟩ => vp m c
    | ⟨1, _⟩ => comb (vals m) c
  Φ t := if t.val = 0 then iprop((Rec (vals m) ∗ levAts L lv ∗ barKit 2 c ∗ moveKit 4 c) ∗ rest 3 c)
    else iprop((semVal (at_ c (barL 2)) 0 ∗ semVal (at_ c (sndL 4)) 0 ∗ semVal (at_ c (rcvL 4)) 0) ∗ rest 3 c)
  q _ := fullShare
  owed t := if t.val = 0 then due3 c else 0

def pdats : (p : Fin 4) → (c : Dev nD) → Dat τ (Elt F) Unit ℕ UU ℕ (Pipeline.pin (pcfgs (F := F)) adm p) c
  | 0 => dat0 m
  | 1 => dat1 m
  | 2 => dat2 m
  | 3 => dat3 m

/-! ## The arrays before and after -/

/-! A block that is the whole array reads the array. -/

theorem blk0_0 (t : Fin cfg0.N) (f : (Mat 1024 4).Idx → Elt F .bf16) : (win0_0.blk t).view.read (Elt F) f = f :=
  funext fun y => congrArg f (funext fun a => Fin.ext (show 0 * _ + 1 * (y a).val = (y a).val by omega))
theorem blk0_1 (t : Fin cfg0.N) (f : (Two 1024 4).Idx → Elt F .bf16) : (win0_1.blk t).view.read (Elt F) f = f :=
  funext fun y => congrArg f (funext fun a => Fin.ext (show 0 * _ + 1 * (y a).val = (y a).val by omega))
theorem blk1_0 (t : Fin cfg1.N) (f : (Mat 512 1024).Idx → Elt F .bf16) : (win1_0.blk t).view.read (Elt F) f = f :=
  funext fun y => congrArg f (funext fun a => Fin.ext (show 0 * _ + 1 * (y a).val = (y a).val by omega))
theorem blk1_1 (t : Fin cfg1.N) (f : (Mat 512 2).Idx → Elt F .i32) : (win1_1.blk t).view.read (Elt F) f = f :=
  funext fun y => congrArg f (funext fun a => Fin.ext (show 0 * _ + 1 * (y a).val = (y a).val by omega))
theorem blk1_2 (t : Fin cfg1.N) (f : (Mat 512 2).Idx → Elt F .f32) : (win1_2.blk t).view.read (Elt F) f = f :=
  funext fun y => congrArg f (funext fun a => Fin.ext (show 0 * _ + 1 * (y a).val = (y a).val by omega))
theorem blk1_3 (t : Fin cfg1.N) (f : (Two 512 1024).Idx → Elt F .bf16) : (win1_3.blk t).view.read (Elt F) f = f :=
  funext fun y => congrArg f (funext fun a => Fin.ext (show 0 * _ + 1 * (y a).val = (y a).val by omega))
theorem blk1_4 (t : Fin cfg1.N) (f : (Two 512 2).Idx → Elt F .i32) : (win1_4.blk t).view.read (Elt F) f = f :=
  funext fun y => congrArg f (funext fun a => Fin.ext (show 0 * _ + 1 * (y a).val = (y a).val by omega))
theorem blk1_5 (t : Fin cfg1.N) (f : (Two 512 2).Idx → Elt F .f32) : (win1_5.blk t).view.read (Elt F) f = f :=
  funext fun y => congrArg f (funext fun a => Fin.ext (show 0 * _ + 1 * (y a).val = (y a).val by omega))
theorem blk3_0 (t : Fin cfg3.N) (f : (Two 512 1024).Idx → Elt F .bf16) : (win3_0.blk t).view.read (Elt F) f = f :=
  funext fun y => congrArg f (funext fun a => Fin.ext (show 0 * _ + 1 * (y a).val = (y a).val by omega))
theorem blk3_1 (t : Fin cfg3.N) (f : (Mat 512 1024).Idx → Elt F .f32) : (win3_1.blk t).view.read (Elt F) f = f :=
  funext fun y => congrArg f (funext fun a => Fin.ext (show 0 * _ + 1 * (y a).val = (y a).val by omega))
theorem blk2_4 (t : Fin cfg2.N) (f : (Mat 1024 1024).Idx → Elt F .f32) : (win2_4.blk t).view.read (Elt F) f = f :=
  funext fun y => congrArg f (funext fun a => Fin.ext (show cc2_transform_4 (grid2.coords t) a * _ + 1 * (y a).val = (y a).val by
    rw [show cc2_transform_4 (grid2.coords t) a = 0 by fin_cases a <;> rfl]; omega))

/-! What each kernel leaves in its result arrays. -/

theorem out0 (c : Dev nD) : (dat0 m c).arrAt 1 cfg0.N = stk (vr m) c := by
  rw [show cfg0.N = t0_0.val + 1 from N_0, (dat0 m c).arrAt_succ 1 t0_0, if_pos (flush0_1 t0_0)]
  exact (blk0_1 t0_0 _).symm.trans (View.read_write_univ _ _)
theorem out1x (c : Dev nD) : (dat1 m c).arrAt 3 cfg1.N = stk (vx m) c := by
  rw [show cfg1.N = t1_0.val + 1 from N_1, (dat1 m c).arrAt_succ 3 t1_0, if_pos (flush1_3 t1_0)]
  exact (blk1_3 t1_0 _).symm.trans (View.read_write_univ _ _)
theorem out1i (c : Dev nD) : (dat1 m c).arrAt 4 cfg1.N = stk (vi m) c := by
  rw [show cfg1.N = t1_0.val + 1 from N_1, (dat1 m c).arrAt_succ 4 t1_0, if_pos (flush1_4 t1_0)]
  exact (blk1_4 t1_0 _).symm.trans (View.read_write_univ _ _)
theorem out1w (c : Dev nD) : (dat1 m c).arrAt 5 cfg1.N = stk (vw m) c := by
  rw [show cfg1.N = t1_0.val + 1 from N_1, (dat1 m c).arrAt_succ 5 t1_0, if_pos (flush1_5 t1_0)]
  exact (blk1_5 t1_0 _).symm.trans (View.read_write_univ _ _)
theorem out3 (c : Dev nD) : (dat3 m c).arrAt 1 cfg3.N = comb (vals m) c := by
  rw [show cfg3.N = t3_0.val + 1 from N_3, (dat3 m c).arrAt_succ 1 t3_0, if_pos (flush3_1 t3_0)]
  exact (blk3_1 t3_0 _).symm.trans (View.read_write_univ _ _)
theorem out2 (c : Dev nD) : (dat2 m c).arrAt 4 cfg2.N = accLast m c := by
  rw [show cfg2.N = t2_3.val + 1 from N_2, (dat2 m c).arrAt_succ 4 t2_3, if_pos ((flush2_4 t2_3).mpr rfl)]
  exact (blk2_4 t2_3 _).symm.trans (View.read_write_univ _ _)

section

attribute [local irreducible] W0 W1 W2 W3 W4 W5 W6 W7 W8

theorem entry0 (c : Dev nD) (w : Fin 2) : (dat0 m c).arrAt w 0 = W1 m c (Proc.devRef .tc (Pipeline.arrRef spec0 w)) := by fin_cases w <;> rfl
theorem entry1 (c : Dev nD) (w : Fin 6) : (dat1 m c).arrAt w 0 = W3 m c (Proc.devRef .tc (Pipeline.arrRef spec1 w)) := by fin_cases w <;> rfl
theorem entry2 (c : Dev nD) (w : Fin 5) : (dat2 m c).arrAt w 0 = W5 m c (Proc.devRef .tc (Pipeline.arrRef spec2 w)) := by fin_cases w <;> rfl
theorem entry3 (c : Dev nD) (w : Fin 2) : (dat3 m c).arrAt w 0 = W7 m c (Proc.devRef .tc (Pipeline.arrRef spec3 w)) := by fin_cases w <;> rfl

end

/-! What the kernels leave alone. -/

theorem W2_of (c : Dev nD) (b : DevRef τ sig) (h : b ≠ Proc.devRef .tc main_v5) : W2 m c b = W1 m c b := Function.update_of_ne h _ _
theorem W4_of (c : Dev nD) (b : DevRef τ sig) (h0 : b ≠ Proc.devRef .tc main_v27_0) (h1 : b ≠ Proc.devRef .tc main_v27_1)
    (h2 : b ≠ Proc.devRef .tc main_v27_2) : W4 m c b = W3 m c b := by
  unfold W4; rw [Function.update_of_ne h2, Function.update_of_ne h1, Function.update_of_ne h0]
theorem W6_of (c : Dev nD) (b : DevRef τ sig) (h : b ≠ Proc.devRef .tc main_v45) : W6 m c b = W5 m c b := Function.update_of_ne h _ _
theorem W8_of (c : Dev nD) (b : DevRef τ sig) (h : b ≠ Proc.devRef .tc main_v48) : W8 m c b = W7 m c b := Function.update_of_ne h _ _
theorem W2_v5 (c : Dev nD) : W2 m c main_v5 = stk (vr m) c := Function.update_self _ _ _
theorem W4_x (c : Dev nD) : W4 m c main_v27_0 = stk (vx m) c := by
  unfold W4; rw [Function.update_of_ne (by decide), Function.update_of_ne (by decide), Function.update_self]
theorem W4_i (c : Dev nD) : W4 m c main_v27_1 = stk (vi m) c := by
  unfold W4; rw [Function.update_of_ne (by decide), Function.update_self]
theorem W4_w (c : Dev nD) : W4 m c main_v27_2 = stk (vw m) c := by unfold W4; rw [Function.update_self]
theorem W6_v45 (c : Dev nD) : W6 m c main_v45 = accLast m c := Function.update_self _ _ _
theorem W8_v48 (c : Dev nD) : W8 m c main_v48 = comb (vals m) c := Function.update_self _ _ _

attribute [local irreducible] W0 W1 W2 W3 W4 W5 W6 W7 W8 accLast acc comb stk vr vx vi vw vp

theorem exit0 (c : Dev nD) (w : Fin 2) : (dat0 m c).arrAt w cfg0.N = W2 m c (Proc.devRef .tc (Pipeline.arrRef spec0 w)) := by
  fin_cases w
  · exact ((dat0 m c).arrAt_in 0 rfl _).trans (W2_of m c (Proc.devRef .tc main_arg1) (by decide)).symm
  · exact (out0 m c).trans (W2_v5 m c).symm
theorem exit1 (c : Dev nD) (w : Fin 6) : (dat1 m c).arrAt w cfg1.N = W4 m c (Proc.devRef .tc (Pipeline.arrRef spec1 w)) := by
  fin_cases w
  · exact ((dat1 m c).arrAt_in 0 rfl _).trans (W4_of m c (Proc.devRef .tc main_arg0) (by decide) (by decide) (by decide)).symm
  · exact ((dat1 m c).arrAt_in 1 rfl _).trans (W4_of m c (Proc.devRef .tc main_indices) (by decide) (by decide) (by decide)).symm
  · exact ((dat1 m c).arrAt_in 2 rfl _).trans (W4_of m c (Proc.devRef .tc main_v26) (by decide) (by decide) (by decide)).symm
  · exact (out1x m c).trans (W4_x m c).symm
  · exact (out1i m c).trans (W4_i m c).symm
  · exact (out1w m c).trans (W4_w m c).symm
theorem exit2 (c : Dev nD) (w : Fin 5) : (dat2 m c).arrAt w cfg2.N = W6 m c (Proc.devRef .tc (Pipeline.arrRef spec2 w)) := by
  fin_cases w
  · exact ((dat2 m c).arrAt_in 0 rfl _).trans (W6_of m c (Proc.devRef .tc main_v44) (by decide)).symm
  · exact ((dat2 m c).arrAt_in 1 rfl _).trans (W6_of m c (Proc.devRef .tc main_arg2) (by decide)).symm
  · exact ((dat2 m c).arrAt_in 2 rfl _).trans (W6_of m c (Proc.devRef .tc main_arg3) (by decide)).symm
  · exact ((dat2 m c).arrAt_in 3 rfl _).trans (W6_of m c (Proc.devRef .tc main_v43) (by decide)).symm
  · exact (out2 m c).trans (W6_v45 m c).symm
theorem exit3 (c : Dev nD) (w : Fin 2) : (dat3 m c).arrAt w cfg3.N = W8 m c (Proc.devRef .tc (Pipeline.arrRef spec3 w)) := by
  fin_cases w
  · exact ((dat3 m c).arrAt_in 0 rfl _).trans (W8_of m c (Proc.devRef .tc main_v47) (by decide)).symm
  · exact (out3 m c).trans (W8_v48 m c).symm

end Cert.Moe
-- ==== Proof.Oblig.lean ====
/-
  Each kernel's body, from what its staging buffers are handed to what it leaves in them.
-/
module

public import proofs.«01_k».proof.Proof.Chain
public import Idealize.ShloMosaic.Lib.Pipeline.FrameBody

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What a core owes, as the pipeline records it. -/
theorem owing_in {cfg : Pipeline.Cfg sig Λ₀} {c : Dev nD} (dat : Dat τ (Elt F) Unit ℕ UU ℕ cfg c) (t : Fin (cfg.N + 1))
    {O : CellTallies nD τ sig Unit} (h0 : dat.owed t = O) (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owing_out {cfg : Pipeline.Cfg sig Λ₀} {c : Dev nD} (dat : Dat τ (Elt F) Unit ℕ UU ℕ cfg c) (t : Fin (cfg.N + 1))
    {O : CellTallies nD τ sig Unit} (h0 : dat.owed t = O) : (dat.owesAt () t : sProp 𝕄) ⊢ iprop(∃ W, owes (c : Thread nD τ) O W) := by
  unfold Dat.owesAt Pipeline.owesWithin; rw [h0]
  iintro ⟨%W, -, HO⟩; iexists W; iexact HO

theorem zero_castSucc (n : ℕ) (h : n = 1) (t : Fin n) : (t.castSucc).val = 0 := by have := t.isLt; show t.val = 0; omega
theorem ne_zero_succ (n : ℕ) (t : Fin n) : (t.succ).val ≠ 0 := by rw [Fin.val_succ]; omega

attribute [local irreducible] W0 W1 W2 W3 W4 W5 W6 W7 W8 accLast acc comb stk

/-- A staging buffer of a single-point kernel, at the contents handed over. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The exchange of the router columns -/

theorem phi0_in (c : Dev nD) : (dat0 m c).Φ t0_0.castSucc = (iprop((Rec (vals m) ∗ levAts L lv ∗ barKit 0 c ∗ moveKit 0 c) ∗ rest (F := F) 0 c) : sProp 𝕄) := rfl
theorem phi0_out (c : Dev nD) : (dat0 m c).Φ t0_0.succ
    = iprop((semVal (at_ c (barL 0)) 0 ∗ semVal (at_ c (sndL 0)) 0 ∗ semVal (at_ c (rcvL 0)) 0) ∗ rest (F := F) 0 c) := rfl
theorem owed0_in (c : Dev nD) : (dat0 m c).owed t0_0.castSucc = due1 c + due3 c + owed c (rcvL 0) + owed c (barL 0) :=
  (add_assoc _ _ _).symm
theorem owed0_out (c : Dev nD) : (dat0 m c).owed t0_0.succ = due1 c + due3 c := rfl
theorem before0_0 (c : Dev nD) (d) : (dat0 m c).before 0 t0_0 d = vr m c := by
  unfold Dat.before; rw [if_pos (fetch0_0 t0_0)]; exact blk0_0 (F := F) t0_0 (vr m c)

def obPre0 (c : Dev nD) : sProp 𝕄 :=
  iprop((dat0 m c).Φ t0_0.castSucc ∗ (dat0 m c).owesAt () t0_0.castSucc
    ∗ (∃ d, stg c cc0_stg0_0 ((dat0 m c).before (0 : Fin 2) t0_0 d)) ∗ (∃ d, stg c cc0_stg1_0 ((dat0 m c).before (1 : Fin 2) t0_0 d)))
def obPost0 (c : Dev nD) : sProp 𝕄 :=
  iprop((dat0 m c).Φ t0_0.succ ∗ (dat0 m c).owesAt () t0_0.succ ∗ stg c cc0_stg0_0 (vr m c) ∗ stg c cc0_stg1_0 (stk (vr m) c))

theorem sound0 (c : Dev nD) : obPre0 m c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) cc0_scratch0 cc0_scratch1)
    (fun _ => obPost0 m c) := by
  unfold obPre0 obPost0
  rw [phi0_in, phi0_out]
  iintro ⟨⟨⟨HR, Hl, Hb, Hm⟩, Hrest⟩, HO, ⟨%d0, %f0, %h0, H0⟩, ⟨%d1, %f1, -, H1⟩⟩
  rw [before0_0] at h0
  subst h0
  ihave HO := (owing_out (dat0 m c) t0_0.castSucc (owed0_in m c)) $$ HO
  icases HO with ⟨%W, HO⟩
  iapply (body0 (vals m) c (due1 c + due3 c) (above_add (above_due1 c) (above_mono (by decide) (above_due3 c))) W f1)
  isplitr [Hrest]
  · unfold pre0
    isplitl [HR]; · iexact HR
    isplitl [Hl]; · iexact Hl
    isplitl [Hb]; · iexact Hb
    isplitl [Hm]; · iexact Hm
    isplitl [H0]; · unfold srcR; iexact H0
    isplitl [H1]; · iexact H1
    iexact HO
  unfold post0
  iintro ⟨Hb, Hs, Hv, H0, H1, HO⟩
  isplitl [Hb Hs Hv Hrest]
  · isplitr [Hrest]
    · isplitl [Hb]; · iexact Hb
      isplitl [Hs]; · iexact Hs
      iexact Hv
    iexact Hrest
  isplitl [HO]; · iapply (owing_in (dat0 m c) t0_0.succ (owed0_out m c) rfl); iexact HO
  isplitl [H0]
  · iexists _; isplitr; · (ipureintro; rfl)
    unfold srcR; iexact H0
  iexists _; isplitr; · (ipureintro; rfl)
  iexact H1

theorem oblig0 (c : Dev nD) : Pipeline.BodyObligation (dat0 m c) (defs₀ (F := F)) 𝒱₀ () Set.univ := fun t => by
  rw [fin_N0 t, bigSep_W0, bigSep_W0]
  simp only [owns_whole]
  exact sound0 m c

/-! ## The exchange of tokens, choices and weights -/

theorem phi1_in (c : Dev nD) : (dat1 m c).Φ t1_0.castSucc
    = (iprop((Rec (vals m) ∗ levAts L lv ∗ barKit 1 c ∗ moveKit 1 c ∗ moveKit 2 c ∗ moveKit 3 c) ∗ rest (F := F) 1 c) : sProp 𝕄) := rfl
theorem phi1_out (c : Dev nD) : (dat1 m c).Φ t1_0.succ
    = iprop((semVal (at_ c (barL 1)) 0 ∗ (semVal (at_ c (sndL 1)) 0 ∗ semVal (at_ c (sndL 2)) 0 ∗ semVal (at_ c (sndL 3)) 0)
      ∗ (semVal (at_ c (rcvL 1)) 0 ∗ semVal (at_ c (rcvL 2)) 0 ∗ semVal (at_ c (rcvL 3)) 0)) ∗ rest (F := F) 1 c) := rfl
theorem owed1_in (c : Dev nD) : (dat1 m c).owed t1_0.castSucc
    = due3 c + owed c (rcvL 3) + owed c (rcvL 2) + owed c (rcvL 1) + owed c (barL 1) :=
  (show (dat1 m c).owed t1_0.castSucc = due3 c + due1 c from rfl).trans (by unfold due1; simp only [add_assoc])
theorem owed1_out (c : Dev nD) : (dat1 m c).owed t1_0.succ = due3 c := rfl
theorem before1_0 (c : Dev nD) (d) : (dat1 m c).before 0 t1_0 d = vx m c := by
  unfold Dat.before; rw [if_pos (fetch1_0 t1_0)]; exact blk1_0 (F := F) t1_0 (vx m c)
theorem before1_1 (c : Dev nD) (d) : (dat1 m c).before 1 t1_0 d = vi m c := by
  unfold Dat.before; rw [if_pos (fetch1_1 t1_0)]; exact blk1_1 (F := F) t1_0 (vi m c)
theorem before1_2 (c : Dev nD) (d) : (dat1 m c).before 2 t1_0 d = vw m c := by
  unfold Dat.before; rw [if_pos (fetch1_2 t1_0)]; exact blk1_2 (F := F) t1_0 (vw m c)

def obPre1 (c : Dev nD) : sProp 𝕄 :=
  iprop((dat1 m c).Φ t1_0.castSucc ∗ (dat1 m c).owesAt () t1_0.castSucc
    ∗ (∃ d, stg c cc1_stg0_0 ((dat1 m c).before (0 : Fin 6) t1_0 d)) ∗ (∃ d, stg c cc1_stg1_0 ((dat1 m c).before (1 : Fin 6) t1_0 d))
    ∗ (∃ d, stg c cc1_stg2_0 ((dat1 m c).before (2 : Fin 6) t1_0 d)) ∗ (∃ d, stg c cc1_stg3_0 ((dat1 m c).before (3 : Fin 6) t1_0 d))
    ∗ (∃ d, stg c cc1_stg4_0 ((dat1 m c).before (4 : Fin 6) t1_0 d)) ∗ (∃ d, stg c cc1_stg5_0 ((dat1 m c).before (5 : Fin 6) t1_0 d)))
def obPost1 (c : Dev nD) : sProp 𝕄 :=
  iprop((dat1 m c).Φ t1_0.succ ∗ (dat1 m c).owesAt () t1_0.succ ∗ stg c cc1_stg0_0 (vx m c) ∗ stg c cc1_stg1_0 (vi m c) ∗ stg c cc1_stg2_0 (vw m c)
    ∗ stg c cc1_stg3_0 (stk (vx m) c) ∗ stg c cc1_stg4_0 (stk (vi m) c) ∗ stg c cc1_stg5_0 (stk (vw m) c))

theorem sound1 (c : Dev nD) : obPre1 m c ⊢ wp frame (wpE (defs₀ (F := F)) 𝒱₀ (c : Thread nD τ) none) Set.univ
    (cc1_body (F := F) (Memref.whole cc1_stg0_0) (Memref.isWhole_whole _) (Memref.whole cc1_stg1_0) (Memref.isWhole_whole _)
            (Memref.whole cc1_stg2_0) (Memref.isWhole_whole _) (Memref.whole main_v5) (Memref.isWhole_whole _)
            (Memref.whole cc1_stg3_0) (Memref.isWhole_whole _) (Memref.whole cc1_stg4_0) (Memref.isWhole_whole _)
            (Memref.whole cc1_stg5_0) (Memref.isWhole_whole _) cc1_scratch0 cc1_scratch1)
    (fun _ => obPost1 m c) := by
  unfold obPre1 obPost1
  rw [phi1_in, phi1_out]
  iintro ⟨⟨⟨HR, Hl, Hb, Hm⟩, Hrest⟩, HO, ⟨%d0, %f0, %h0, H0⟩, ⟨%d1, %f1, %h1, H1⟩, ⟨%d2, %f2, %h2, H2⟩, ⟨%d3, %f3, -, H3⟩, ⟨%d4, %f4, -, H4⟩, ⟨%d5, %f5, -, H5⟩⟩
  rw [before1_0] at h0
  rw [before1_1] at h1
  rw [before1_2] at h2
  subst h0 h1 h2
  ihave HO := (owing_out (dat1 m c) t1_0.castSucc (owed1_in m c)) $$ HO
  icases HO with ⟨%W, HO⟩
  iapply (body1 (vals m) c (due3 c) (above_due3 c) W f3 f4 f5)
  isplitr [Hrest]
  · unfold pre1
    isplitl [HR]; · iexact HR
    isplitl [Hl]; · iexact Hl
    isplitl [Hb]; · iexact Hb
    isplitl [Hm]; · iexact Hm
    isplitl [H0 H1 H2]
    · unfold srcX srcI srcW
      isplitl [H0]; · iexact H0
      isplitl [H1]; · iexact H1
      iexact H2
    isplitl [H3 H4 H5]
    · isplitl [H3]; · iexact H3
      isplitl [H4]; · iexact H4
      iexact H5
    iexact HO
  unfold post1
  iintro ⟨Hb, Hs, Hv, ⟨H0, H1, H2⟩, ⟨H3, H4, H5⟩, HO⟩
  isplitl [Hb Hs Hv Hrest]
  · isplitr [Hrest]
    · isplitl [Hb]; · iexact Hb
      isplitl [Hs]; · iexact Hs
      iexact Hv
    iexact Hrest
  isplitl [HO]; · iapply (owing_in (dat1 m c) t1_0.succ (owed1_out m c) rfl); iexact HO
  isplitl [H0]
  · iexists _; isplitr; · (ipureintro; rfl)
    unfold srcX; iexact H0
  isplitl [H1]
  · iexists _; isplitr; · (ipureintro; rfl)
    unfold srcI; iexact H1
  isplitl [H2]
  · iexists _; isplitr; · (ipureintro; rfl)
    unfold srcW; iexact H2
  isplitl [H3]
  · iexists _; isplitr; · (ipureintro; rfl)
    iexact H3
  isplitl [H4]
  · iexists _; isplitr; · (ipureintro; rfl)
    iexact H4
  iexists _; isplitr; · (ipureintro; rfl)
  iexact H5

theorem oblig1 (c : Dev nD) : Pipeline.BodyObligation (dat1 m c) (defs₀ (F := F)) 𝒱₀ () Set.univ := fun t => by
  rw [fin_N1 t, bigSep_W1, bigSep_W1]
  simp only [owns_whole]
  exact sound1 m c

/-! ## The combination -/

theorem phi3_in (c : Dev nD) : (dat3 m c).Φ t3_0.castSucc
    = (iprop((Rec (vals m) ∗ levAts L lv ∗ barKit 2 c ∗ moveKit 4 c) ∗ rest (F := F) 3 c) : sProp 𝕄) := rfl
theorem phi3_out (c : Dev nD) : (dat3 m c).Φ t3_0.succ
    = iprop((semVal (at_ c (barL 2)) 0 ∗ semVal (at_ c (sndL 4)) 0 ∗ semVal (at_ c (rcvL 4)) 0) ∗ rest (F := F) 3 c) := rfl
theorem owed3_in (c : Dev nD) : (dat3 m c).owed t3_0.castSucc = 0 + owed c (rcvL 4) + owed c (barL 2) :=
  (show (dat3 m c).owed t3_0.castSucc = due3 c from rfl).trans (by unfold due3; rw [zero_add])
theorem owed3_out (c : Dev nD) : (dat3 m c).owed t3_0.succ = 0 := rfl
theorem before3_0 (c : Dev nD) (d) : (dat3 m c).before 0 t3_0 d = vp m c := by
  unfold Dat.before; rw [if_pos (fetch3_0 t3_0)]; exact blk3_0 (F := F) t3_0 (vp m c)

/-- The buffer the partner's partial sums land in is among the scoped buffers no window stages. -/
theorem scratch_out (c : Dev nD) :
    (Pipeline.scopedRest (Ix := Unit) (Name := ℕ) (U := UU) (Lvl := ℕ) (Val := Elt F) (cfgs 3).spec c : sProp 𝕄)
      ⊢ iprop((∃ g, landP c g) ∗ ((∃ g, landP c g) -∗ Pipeline.scopedRest (Ix := Unit) (Name := ℕ) (U := UU) (Lvl := ℕ) (Val := Elt F) (cfgs 3).spec c)) := by
  rw [show (Pipeline.scopedRest (Ix := Unit) (Name := ℕ) (U := UU) (Lvl := ℕ) (Val := Elt F) (cfgs 3).spec c : sProp 𝕄) = _ from scopedRest3_eq c]
  unfold landP
  iintro ⟨H1, H2, H3, H4, H5, H6, H7, H8, H9, H10, H11, H12, H13, H14, H15, Hs⟩
  isplitl [Hs]; · iexact Hs
  iintro Hs
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact Hs

def obPre3 (c : Dev nD) : sProp 𝕄 :=
  iprop((dat3 m c).Φ t3_0.castSucc ∗ (dat3 m c).owesAt () t3_0.castSucc
    ∗ (∃ d, stg c cc3_stg0_0 ((dat3 m c).before (0 : Fin 2) t3_0 d)) ∗ (∃ d, stg c cc3_stg1_0 ((dat3 m c).before (1 : Fin 2) t3_0 d)))
def obPost3 (c : Dev nD) : sProp 𝕄 :=
  iprop((dat3 m c).Φ t3_0.succ ∗ (dat3 m c).owesAt () t3_0.succ ∗ stg c cc3_stg0_0 (vp m c) ∗ stg c cc3_stg1_0 (comb (vals m) c))

theorem sound3 (c : Dev nD) : obPre3 m c ⊢ wp frame (wpE (defs₀ (F := F)) 𝒱₀ (c : Thread nD τ) none) Set.univ
    (cc3_body (F := F) (Memref.whole cc3_stg0_0) (Memref.isWhole_whole _) (Memref.whole cc3_stg1_0) (Memref.isWhole_whole _)
            (Memref.whole cc3_scratch0) (Memref.isWhole_whole _) cc3_scratch1 cc3_scratch2)
    (fun _ => obPost3 m c) := by
  unfold obPre3 obPost3
  rw [phi3_in, phi3_out]
  iintro ⟨⟨⟨HR, Hl, Hb, Hm⟩, ⟨Hrest, Hp⟩⟩, HO, ⟨%d0, %f0, %h0, H0⟩, ⟨%d1, %f1, -, H1⟩⟩
  rw [before3_0] at h0
  subst h0
  ihave HO := (owing_out (dat3 m c) t3_0.castSucc (owed3_in m c)) $$ HO
  icases HO with ⟨%W, HO⟩
  ihave Hrest := (scratch_out (F := F) c) $$ Hrest
  icases Hrest with ⟨⟨%g, Hg⟩, Hrest⟩
  iapply (body3 (vals m) c 0 (above_zero 6) W f1 g)
  isplitr [Hrest Hp]
  · unfold pre3
    isplitl [HR]; · iexact HR
    isplitl [Hl]; · iexact Hl
    isplitl [Hb]; · iexact Hb
    isplitl [Hm]; · iexact Hm
    isplitl [H0]; · iexact H0
    isplitl [H1]; · iexact H1
    isplitl [Hg]; · iexact Hg
    iexact HO
  unfold post3
  iintro ⟨Hb, Hs, Hv, H0, H1, Hg, HO⟩
  isplitl [Hb Hs Hv Hrest Hp Hg]
  · isplitr [Hrest Hp Hg]
    · isplitl [Hb]; · iexact Hb
      isplitl [Hs]; · iexact Hs
      iexact Hv
    isplitr [Hp]
    · iapply Hrest; iexact Hg
    iexact Hp
  isplitl [HO]; · iapply (owing_in (dat3 m c) t3_0.succ (owed3_out m c) rfl); iexact HO
  isplitl [H0]
  · iexists _; isplitr; · (ipureintro; rfl)
    iexact H0
  iexists _; isplitr; · (ipureintro; rfl)
  iexact H1

theorem oblig3 (c : Dev nD) : Pipeline.BodyObligation (dat3 m c) (defs₀ (F := F)) 𝒱₀ () Set.univ := fun t => by
  rw [fin_N3 t, bigSep_W3, bigSep_W3]
  simp only [owns_whole]
  exact sound3 m c

/-! ## The experts -/

theorem before2_0 (c : Dev nD) (t : Fin cfg2.N) (d) : (dat2 m c).before 0 t d = xIn m c t :=
  (dat2 m c).before_in_eq_fetched 0 rfl (fun _ => rfl) (fun _ _ _ => rfl) (fun _ => rfl) t d
theorem before2_1 (c : Dev nD) (t : Fin cfg2.N) (d) : (dat2 m c).before 1 t d = uIn m c t :=
  (dat2 m c).before_in_eq_fetched 1 rfl (fun _ => rfl) (fun _ _ _ => rfl) (fun _ => rfl) t d
theorem before2_2 (c : Dev nD) (t : Fin cfg2.N) (d) : (dat2 m c).before 2 t d = dIn m c t :=
  (dat2 m c).before_in_eq_fetched 2 rfl (fun _ => rfl) (fun _ _ _ => rfl) (fun _ => rfl) t d
theorem before2_3 (c : Dev nD) (t : Fin cfg2.N) (d) : (dat2 m c).before 3 t d = gIn m c t :=
  (dat2 m c).before_in_eq_fetched 3 rfl (fun _ => rfl) (fun _ _ _ => rfl) (fun _ => rfl) t d
theorem live2_4 : ∀ i : grid2.Coords, cfg2.idle 4 i = false := by decide
theorem before2_4 (c : Dev nD) (n : ℕ) (h : n + 1 < cfg2.N) (d) :
    (dat2 m c).before 4 ⟨n + 1, h⟩ d = acc m c n (Nat.lt_of_succ_lt h) :=
  (dat2 m c).before_out_kept 4 rfl ⟨n + 1, h⟩ (Nat.succ_ne_zero n)
    (by rw [← Bool.not_eq_true]; intro hf; have h' := (flush2_4 _).mp hf; have := N_2; simp only [Nat.add_sub_cancel] at h'; have : n + 1 < grid2.N := h; omega)
    live2_4 (fun _ _ => rfl) d

theorem first2 : k2_cond1 (grid2.coords t2_0) = 1#1 ∧ ¬ k2_cond2 (grid2.coords t2_0) = 1#1 := by decide
theorem next2 : ∀ t : Fin cfg2.N, t.val ≠ 0 → ¬ k2_cond1 (grid2.coords t) = 1#1 ∧ k2_cond2 (grid2.coords t) = 1#1 := by decide

def obPre2 (c : Dev nD) (t : Fin cfg2.N) : sProp 𝕄 :=
  iprop((dat2 m c).Φ t.castSucc ∗ (dat2 m c).owesAt () t.castSucc
    ∗ (∃ d, owns (c : Thread nD τ) (st2_0 t) fullShare ((dat2 m c).before (0 : Fin 5) t d))
    ∗ (∃ d, owns (c : Thread nD τ) (st2_1 t) fullShare ((dat2 m c).before (1 : Fin 5) t d))
    ∗ (∃ d, owns (c : Thread nD τ) (st2_2 t) fullShare ((dat2 m c).before (2 : Fin 5) t d))
    ∗ (∃ d, owns (c : Thread nD τ) (st2_3 t) fullShare ((dat2 m c).before (3 : Fin 5) t d))
    ∗ (∃ d, owns (c : Thread nD τ) (st2_4 t) fullShare ((dat2 m c).before (4 : Fin 5) t d)))
def obPost2 (c : Dev nD) (t : Fin cfg2.N) : sProp 𝕄 :=
  iprop((dat2 m c).Φ t.succ ∗ (dat2 m c).owesAt () t.succ
    ∗ owns (c : Thread nD τ) (st2_0 t) fullShare (xIn m c t) ∗ owns (c : Thread nD τ) (st2_1 t) fullShare (uIn m c t)
    ∗ owns (c : Thread nD τ) (st2_2 t) fullShare (dIn m c t) ∗ owns (c : Thread nD τ) (st2_3 t) fullShare (gIn m c t)
    ∗ owns (c : Thread nD τ) (st2_4 t) fullShare (acc m c t.val t.isLt))

theorem sound2 (c : Dev nD) (t : Fin cfg2.N) : obPre2 m c t ⊢ wp frame (wpE (defs₀ (F := F)) 𝒱₀ (c : Thread nD τ) none) Set.univ
    (bodyAt2 (F := F) t) (fun _ => obPost2 m c t) := by
  unfold obPre2 obPost2
  rw [show (dat2 m c).Φ t.succ = (dat2 m c).Φ t.castSucc from rfl, show (dat2 m c).owesAt () t.succ = (dat2 m c).owesAt () t.castSucc from rfl]
  iintro ⟨HP, HO, ⟨%d0, H0⟩, ⟨%d1, H1⟩, ⟨%d2, H2⟩, ⟨%d3, H3⟩, ⟨%d4, H4⟩⟩
  rw [before2_0, before2_1, before2_2, before2_3]
  obtain ⟨n, hn⟩ := t
  cases n with
  | zero =>
    iapply (body2_first c (grid2.coords ⟨0, hn⟩) first2.1 first2.2 (st2_0 ⟨0, hn⟩) _ (st2_1 ⟨0, hn⟩) _ (st2_2 ⟨0, hn⟩) _ (st2_3 ⟨0, hn⟩) _ (st2_4 ⟨0, hn⟩) _
      (xIn m c ⟨0, hn⟩) (uIn m c ⟨0, hn⟩) (dIn m c ⟨0, hn⟩) (gIn m c ⟨0, hn⟩) ((dat2 m c).before (4 : Fin 5) ⟨0, hn⟩ d4))
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HP]; · iexact HP
    isplitl [HO]; · iexact HO
    isplitl [H0]; · iexact H0
    isplitl [H1]; · iexact H1
    isplitl [H2]; · iexact H2
    isplitl [H3]; · iexact H3
    unfold acc; iexact H4
  | succ n =>
    rw [before2_4]
    iapply (body2_next c (grid2.coords ⟨n + 1, hn⟩) (next2 ⟨n + 1, hn⟩ (Nat.succ_ne_zero n)).1 (next2 ⟨n + 1, hn⟩ (Nat.succ_ne_zero n)).2
      (st2_0 ⟨n + 1, hn⟩) _ (st2_1 ⟨n + 1, hn⟩) _ (st2_2 ⟨n + 1, hn⟩) _ (st2_3 ⟨n + 1, hn⟩) _ (st2_4 ⟨n + 1, hn⟩) _
      (xIn m c ⟨n + 1, hn⟩) (uIn m c ⟨n + 1, hn⟩) (dIn m c ⟨n + 1, hn⟩) (gIn m c ⟨n + 1, hn⟩) (acc m c n (Nat.lt_of_succ_lt hn)))
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitl [HP]; · iexact HP
    isplitl [HO]; · iexact HO
    isplitl [H0]; · iexact H0
    isplitl [H1]; · iexact H1
    isplitl [H2]; · iexact H2
    isplitl [H3]; · iexact H3
    rw [acc]; iexact H4

theorem oblig2 (c : Dev nD) : Pipeline.BodyObligation (dat2 m c) (defs₀ (F := F)) 𝒱₀ () Set.univ := fun t => by
  rw [bigSep_W2, bigSep_W2]
  dsimp only
  rw [show idle2 4 (grid2.coords t) = false from live2_4 _]
  exact sound2 m c t

end Cert.Moe
-- ==== Proof.Talks.lean ====
/-
  The four kernels as segments of @main: from the state of a core before a kernel to the state after it.
-/
module

public import proofs.«01_k».proof.Proof.Oblig
public import Idealize.ShloMosaic.Lib.Pipeline.RegionTalk
public import Idealize.ShloMosaic.Lib.Pipeline.Regions

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

/-! ## The cells a kernel's scratch holds -/

def osem0 : Fin 2 → SemLoc sig := fun | 0 => sndL 0 | 1 => rcvL 0
def osem1 : Fin 6 → SemLoc sig := fun | 0 => sndL 1 | 1 => sndL 2 | 2 => sndL 3 | 3 => rcvL 1 | 4 => rcvL 2 | 5 => rcvL 3
def osem3 : Fin 2 → SemLoc sig := fun | 0 => sndL 4 | 1 => rcvL 4

theorem own0 (c : Dev nD) : (Pipeline.ownSems0 osem0 c : sProp 𝕄) = iprop(semVal (at_ c (sndL 0)) 0 ∗ semVal (at_ c (rcvL 0)) 0) :=
  BI.bigSep_fin_two (fun k : Fin 2 => (semVal (at_ c (osem0 k)) 0 : sProp 𝕄))
theorem own3 (c : Dev nD) : (Pipeline.ownSems0 osem3 c : sProp 𝕄) = iprop(semVal (at_ c (sndL 4)) 0 ∗ semVal (at_ c (rcvL 4)) 0) :=
  BI.bigSep_fin_two (fun k : Fin 2 => (semVal (at_ c (osem3 k)) 0 : sProp 𝕄))
theorem own1 (c : Dev nD) : (Pipeline.ownSems0 osem1 c : sProp 𝕄)
    = iprop(semVal (at_ c (sndL 1)) 0 ∗ semVal (at_ c (sndL 2)) 0 ∗ semVal (at_ c (sndL 3)) 0
      ∗ semVal (at_ c (rcvL 1)) 0 ∗ semVal (at_ c (rcvL 2)) 0 ∗ semVal (at_ c (rcvL 3)) 0) := by
  unfold Pipeline.ownSems0
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl

/-! ## The state of a core between the items of @main -/

/-- What a core keeps for each of the talking kernels until it runs. -/
def kit0 (c : Dev nD) : sProp 𝕄 := iprop(barKit 0 c ∗ dormKit 0 c)
def kit1 (c : Dev nD) : sProp 𝕄 := iprop(barKit 1 c ∗ dormKit 1 c ∗ dormKit 2 c ∗ dormKit 3 c)
def kit3 (c : Dev nD) : sProp 𝕄 := iprop(barKit 2 c ∗ dormKit 4 c)
/-- A barrier counter of the core, back at zero. -/
def zbar (k : Fin 3) (c : Dev nD) : sProp 𝕄 := semVal (at_ c (barL k)) 0

def E0 (c : Dev nD) : sProp 𝕄 := iprop((Rec (vals m) ∗ kit0 c) ∗ (kit1 c ∗ kit3 c) ∗ (∃ r, prngReg c r) ∗ ∃ W, owes (c : Thread nD τ) (due1 c + due3 c + due0 c) W)
def E1 (c : Dev nD) : sProp 𝕄 := iprop((Rec (vals m) ∗ kit1 c) ∗ (zbar 0 c ∗ kit3 c) ∗ (∃ r, prngReg c r) ∗ ∃ W, owes (c : Thread nD τ) (due3 c + due1 c) W)
def E2 (c : Dev nD) : sProp 𝕄 := iprop((Rec (vals m) ∗ kit3 c) ∗ (zbar 0 c ∗ zbar 1 c) ∗ (∃ r, prngReg c r) ∗ ∃ W, owes (c : Thread nD τ) (due3 c) W)
def E4 (c : Dev nD) : sProp 𝕄 := iprop(zbar 2 c ∗ (zbar 0 c ∗ zbar 1 c) ∗ (∃ r, prngReg c r) ∗ ∃ W, owes (c : Thread nD τ) (0 : CellTallies nD τ sig Unit) W)

/-! ## Region facts -/

theorem kitP0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
/-- The buffers of @main other than the kernel's arrays. -/
abbrev Sr0 : Finset (DevRef τ sig) := Pipeline.ucRefs τ sig \ Pipeline.arrRefs (τ := τ) spec0
theorem stage_low0 : ∀ (w : Fin cfg0.W) (s : Fin (cfg0.win w).nbuf), lvl (.dma ((cfg0.win w).sem s)) = 0 := by decide
theorem held_split0 (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) Sr0 W) :=
  StableHlo.held_sub_split (c : Thread nD τ) (Pipeline.arrRefs_sub_ucRefs spec0 (by decide)) W
theorem arr_mem0 (w : Fin cfg0.W) : Proc.devRef .tc (Pipeline.arrRef spec0 w) ∈ Pipeline.arrRefs (τ := τ) spec0 :=
  Finset.mem_map_of_mem _ (Finset.mem_image_of_mem _ (Finset.mem_univ w))
theorem kitP1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1
/-- The buffers of @main other than the kernel's arrays. -/
abbrev Sr1 : Finset (DevRef τ sig) := Pipeline.ucRefs τ sig \ Pipeline.arrRefs (τ := τ) spec1
theorem stage_low1 : ∀ (w : Fin cfg1.W) (s : Fin (cfg1.win w).nbuf), lvl (.dma ((cfg1.win w).sem s)) = 0 := by decide
theorem held_split1 (c : Dev nD) (W : Valuation τ sig (Elt F)) :
    (StableHlo.held (c : Thread nD τ) (Pipeline.ucRefs τ sig) W : sProp 𝕄)
      = iprop(StableHlo.held (c : Thread nD τ) (Pipeline.arrRefs (τ := τ) spec1) W ∗ StableHlo.held (c : Thread nD τ) Sr1 W) :=
  StableHlo.held_sub_split (c : Thread nD τ) (Pipeline.arrRefs_sub_ucRefs spec1 (by decide)) W
theorem arr_mem1 (w : Fin cfg1.W) : Proc.devRef .tc (Pipeline.arrRef spec1 w) ∈ Pipeline.arrRefs (τ := τ) spec1 :=
  Finset.mem_map_of_mem _ (Finset.mem_image_of_mem _ (Finset.mem_univ w))
theorem kitP2 : Pipeline.PLaunchFacts (nD := nD) (τ := τ) (pcfgs (F := F)) 2 where
  cellOf_inj a := by rw [Subsingleton.elim a adm]; exact cellOf_inj
  win := winFacts2
  pre := Pipeline.PreFacts.none _
  block_pos := block_pos2
  arr_whole := arr_whole2
  stage_whole := stage_whole2
/-- The buffers of @main other than the kernel's arrays. -/
abbrev Sr2 : Finset (DevRef τ sig) := Pipeline.ucRefs τ sig \ Pipeline.arrRefs (τ := τ) spec2
theorem stage_low2 : ∀ (w : Fin cfg2.W) (s : Fin (cfg2.win w).nbuf), lvl (.dma ((cfg2.win w).sem s)) = 0 := by decide
theorem held_split2 (c : Dev nD) (W : Valuation τ sig (Elt F)) :
    (StableHlo.held (c : Thread nD τ) (Pipeline.ucRefs τ sig) W : sProp 𝕄)
      = iprop(StableHlo.held (c : Thread nD τ) (Pipeline.arrRefs (τ := τ) spec2) W ∗ StableHlo.held (c : Thread nD τ) Sr2 W) :=
  StableHlo.held_sub_split (c : Thread nD τ) (Pipeline.arrRefs_sub_ucRefs spec2 (by decide)) W
theorem arr_mem2 (w : Fin cfg2.W) : Proc.devRef .tc (Pipeline.arrRef spec2 w) ∈ Pipeline.arrRefs (τ := τ) spec2 :=
  Finset.mem_map_of_mem _ (Finset.mem_image_of_mem _ (Finset.mem_univ w))
theorem kitP3 : Pipeline.PLaunchFacts (nD := nD) (τ := τ) (pcfgs (F := F)) 3 where
  cellOf_inj a := by rw [Subsingleton.elim a adm]; exact cellOf_inj
  win := winFacts3
  pre := Pipeline.PreFacts.none _
  block_pos := block_pos3
  arr_whole := arr_whole3
  stage_whole := stage_whole3
/-- The buffers of @main other than the kernel's arrays. -/
abbrev Sr3 : Finset (DevRef τ sig) := Pipeline.ucRefs τ sig \ Pipeline.arrRefs (τ := τ) spec3
theorem stage_low3 : ∀ (w : Fin cfg3.W) (s : Fin (cfg3.win w).nbuf), lvl (.dma ((cfg3.win w).sem s)) = 0 := by decide
theorem held_split3 (c : Dev nD) (W : Valuation τ sig (Elt F)) :
    (StableHlo.held (c : Thread nD τ) (Pipeline.ucRefs τ sig) W : sProp 𝕄)
      = iprop(StableHlo.held (c : Thread nD τ) (Pipeline.arrRefs (τ := τ) spec3) W ∗ StableHlo.held (c : Thread nD τ) Sr3 W) :=
  StableHlo.held_sub_split (c : Thread nD τ) (Pipeline.arrRefs_sub_ucRefs spec3 (by decide)) W
theorem arr_mem3 (w : Fin cfg3.W) : Proc.devRef .tc (Pipeline.arrRef spec3 w) ∈ Pipeline.arrRefs (τ := τ) spec3 :=
  Finset.mem_map_of_mem _ (Finset.mem_image_of_mem _ (Finset.mem_univ w))

theorem keep0 (c : Dev nD) (b : DevRef τ sig) (hb : b ∈ Sr0 \ ∅) : W2 m c b = W1 m c b := by
  rw [Finset.sdiff_empty, Finset.mem_sdiff] at hb
  exact W2_of m c b fun h => hb.2 (h ▸ arr_mem0 1)
theorem keep1 (c : Dev nD) (b : DevRef τ sig) (hb : b ∈ Sr1 \ ∅) : W4 m c b = W3 m c b := by
  rw [Finset.sdiff_empty, Finset.mem_sdiff] at hb
  exact W4_of m c b (fun h => hb.2 (h ▸ arr_mem1 3)) (fun h => hb.2 (h ▸ arr_mem1 4)) fun h => hb.2 (h ▸ arr_mem1 5)
theorem keep2 (c : Dev nD) (b : DevRef τ sig) (hb : b ∈ Sr2 \ ∅) : W6 m c b = W5 m c b := by
  rw [Finset.sdiff_empty, Finset.mem_sdiff] at hb
  exact W6_of m c b fun h => hb.2 (h ▸ arr_mem2 4)
theorem keep3 (c : Dev nD) (b : DevRef τ sig) (hb : b ∈ Sr3 \ ∅) : W8 m c b = W7 m c b := by
  rw [Finset.sdiff_empty, Finset.mem_sdiff] at hb
  exact W8_of m c b fun h => hb.2 (h ▸ arr_mem3 1)

theorem held_none (c : Dev nD) (W : Valuation τ sig (Elt F)) : (StableHlo.held (c.tc : Thread nD τ) ∅ W : sProp 𝕄) = BI.emp := by
  unfold StableHlo.held; exact BI.bigSep_empty

theorem cut_of {O : CellTallies nD τ sig Unit} (h : Above 0 O) (g : GSem nD τ sig) (i : Unit) (hg : 0 < O g i) : i ∈ L g ∧ (0 : ℕ) < lv g i := h g i hg
theorem above_all (c : Dev nD) : Above 0 (due1 c + due3 c + due0 c) :=
  above_add (above_add (above_mono (by decide) (above_due1 c)) (above_mono (by decide) (above_due3 c))) (above_due0 c)

theorem cut0 (c : Dev nD) (t : Fin (cfg0.N + 1)) : Above 0 ((dat0 m c).owed t) := by
  rw [show (dat0 m c).owed t = if t.val = 0 then due1 c + due3 c + due0 c else due1 c + due3 c from rfl]
  split
  · exact above_all c
  · exact above_add (above_mono (by decide) (above_due1 c)) (above_mono (by decide) (above_due3 c))
theorem cut1 (c : Dev nD) (t : Fin (cfg1.N + 1)) : Above 0 ((dat1 m c).owed t) := by
  rw [show (dat1 m c).owed t = if t.val = 0 then due3 c + due1 c else due3 c from rfl]
  split
  · exact above_add (above_mono (by decide) (above_due3 c)) (above_mono (by decide) (above_due1 c))
  · exact above_mono (by decide) (above_due3 c)
theorem cut2 (c : Dev nD) (t : Fin (cfg2.N + 1)) : Above 0 ((dat2 m c).owed t) := above_mono (by decide) (above_due3 c)
theorem cut3 (c : Dev nD) (t : Fin (cfg3.N + 1)) : Above 0 ((dat3 m c).owed t) := by
  rw [show (dat3 m c).owed t = if t.val = 0 then due3 c else 0 from rfl]
  split
  · exact above_mono (by decide) (above_due3 c)
  · exact above_zero 0

def X0 (c : Dev nD) : sProp 𝕄 := iprop(Rec (vals m) ∗ levAts L lv ∗ barKit 0 c ∗ moveKit 0 c)

/-- The cells of a kernel's scratch are opened as it starts. -/
theorem open0 (c : Dev nD) : iprop((Rec (vals m) ∗ kit0 c) ∗ Pipeline.ownSems0 osem0 c ∗ levAts L lv) ⊢ (|={Set.univ}=> X0 m c : sProp 𝕄) := by
  rw [own0]; unfold kit0 X0
  iintro ⟨⟨#HR, Hb, Hd0⟩, ⟨Hs0, Hv0⟩, Hl⟩
  imod (open_kit (vals m) 0 c) $$ [Hd0 Hs0 Hv0] with Hm0
  · isplitr; · iexact HR
    isplitl [Hd0]; · iexact Hd0
    isplitl [Hs0]; · iexact Hs0
    iexact Hv0
  imodintro
  isplitr; · iexact HR
  isplitl [Hl]; · iexact Hl
  isplitl [Hb]; · iexact Hb
  iexact Hm0

def X1 (c : Dev nD) : sProp 𝕄 := iprop(Rec (vals m) ∗ levAts L lv ∗ barKit 1 c ∗ moveKit 1 c ∗ moveKit 2 c ∗ moveKit 3 c)

/-- The cells of a kernel's scratch are opened as it starts. -/
theorem open1 (c : Dev nD) : iprop((Rec (vals m) ∗ kit1 c) ∗ Pipeline.ownSems0 osem1 c ∗ levAts L lv) ⊢ (|={Set.univ}=> X1 m c : sProp 𝕄) := by
  rw [own1]; unfold kit1 X1
  iintro ⟨⟨#HR, Hb, Hd1, Hd2, Hd3⟩, ⟨Hs1, Hs2, Hs3, Hv1, Hv2, Hv3⟩, Hl⟩
  imod (open_kit (vals m) 1 c) $$ [Hd1 Hs1 Hv1] with Hm1
  · isplitr; · iexact HR
    isplitl [Hd1]; · iexact Hd1
    isplitl [Hs1]; · iexact Hs1
    iexact Hv1
  imod (open_kit (vals m) 2 c) $$ [Hd2 Hs2 Hv2] with Hm2
  · isplitr; · iexact HR
    isplitl [Hd2]; · iexact Hd2
    isplitl [Hs2]; · iexact Hs2
    iexact Hv2
  imod (open_kit (vals m) 3 c) $$ [Hd3 Hs3 Hv3] with Hm3
  · isplitr; · iexact HR
    isplitl [Hd3]; · iexact Hd3
    isplitl [Hs3]; · iexact Hs3
    iexact Hv3
  imodintro
  isplitr; · iexact HR
  isplitl [Hl]; · iexact Hl
  isplitl [Hb]; · iexact Hb
  isplitl [Hm1]; · iexact Hm1
  isplitl [Hm2]; · iexact Hm2
  iexact Hm3

def X3 (c : Dev nD) : sProp 𝕄 := iprop(Rec (vals m) ∗ levAts L lv ∗ barKit 2 c ∗ moveKit 4 c)

/-- The cells of a kernel's scratch are opened as it starts. -/
theorem open3 (c : Dev nD) : iprop((Rec (vals m) ∗ kit3 c) ∗ Pipeline.ownSems0 osem3 c ∗ levAts L lv) ⊢ (|={Set.univ}=> X3 m c : sProp 𝕄) := by
  rw [own3]; unfold kit3 X3
  iintro ⟨⟨#HR, Hb, Hd4⟩, ⟨Hs4, Hv4⟩, Hl⟩
  imod (open_kit (vals m) 4 c) $$ [Hd4 Hs4 Hv4] with Hm4
  · isplitr; · iexact HR
    isplitl [Hd4]; · iexact Hd4
    isplitl [Hs4]; · iexact Hs4
    iexact Hv4
  imodintro
  isplitr; · iexact HR
  isplitl [Hl]; · iexact Hl
  isplitl [Hb]; · iexact Hb
  iexact Hm4

theorem in0 (c : Dev nD) : iprop(Pipeline.scopedRest (Pipeline.pin (pcfgs (F := F)) adm 0).spec c ∗ (∃ r, prngReg c r)
    ∗ StableHlo.held (c.tc : Thread nD τ) ∅ (W1 m c) ∗ X0 m c) ⊢ ((pdats m 0 c).Φ 0 : sProp 𝕄) := by
  rw [held_none, show (pdats m 0 c).Φ 0 = (iprop(X0 m c ∗ rest (F := F) 0 c) : sProp 𝕄) from rfl]
  iintro ⟨Hs, Hp, -, HX⟩
  isplitl [HX]; · iexact HX
  isplitl [Hs]; · iexact Hs
  iexact Hp
theorem out0' (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (W2 m c) ∗ Pipeline.ownSems0 osem0 c ∗ zbar 0 c) := by
  rw [held_none, own0, show (pdats m 0 c).Φ (Fin.last (Pipeline.pin (pcfgs (F := F)) adm 0).N)
    = (iprop((semVal (at_ c (barL 0)) 0 ∗ semVal (at_ c (sndL 0)) 0 ∗ semVal (at_ c (rcvL 0)) 0) ∗ rest (F := F) 0 c) : sProp 𝕄) from rfl]
  unfold zbar
  iintro ⟨⟨Hb, Hs0, Hv0⟩, Hs, Hp⟩
  isplitl [Hs]; · iexact Hs
  isplitl [Hp]; · iexact Hp
  isplitr; · iempintro
  isplitr [Hb]
  · isplitl [Hs0]; · iexact Hs0
    iexact Hv0
  iexact Hb

theorem in1 (c : Dev nD) : iprop(Pipeline.scopedRest (Pipeline.pin (pcfgs (F := F)) adm 1).spec c ∗ (∃ r, prngReg c r)
    ∗ StableHlo.held (c.tc : Thread nD τ) ∅ (W3 m c) ∗ X1 m c) ⊢ ((pdats m 1 c).Φ 0 : sProp 𝕄) := by
  rw [held_none, show (pdats m 1 c).Φ 0 = (iprop(X1 m c ∗ rest (F := F) 1 c) : sProp 𝕄) from rfl]
  iintro ⟨Hs, Hp, -, HX⟩
  isplitl [HX]; · iexact HX
  isplitl [Hs]; · iexact Hs
  iexact Hp
theorem out1' (c : Dev nD) : ((pdats m 1 c).Φ (Fin.last (Pipeline.pin (pcfgs (F := F)) adm 1).N) : sProp 𝕄)
    ⊢ iprop(Pipeline.scopedRest (Pipeline.pin (pcfgs (F := F)) adm 1).spec c ∗ (∃ r, prngReg c r)
      ∗ StableHlo.held (c.tc : Thread nD τ) ∅ (W4 m c) ∗ Pipeline.ownSems0 osem1 c ∗ zbar 1 c) := by
  rw [held_none, own1, show (pdats m 1 c).Φ (Fin.last (Pipeline.pin (pcfgs (F := F)) adm 1).N)
    = (iprop((semVal (at_ c (barL 1)) 0 ∗ (semVal (at_ c (sndL 1)) 0 ∗ semVal (at_ c (sndL 2)) 0 ∗ semVal (at_ c (sndL 3)) 0) ∗ (semVal (at_ c (rcvL 1)) 0 ∗ semVal (at_ c (rcvL 2)) 0 ∗ semVal (at_ c (rcvL 3)) 0)) ∗ rest (F := F) 1 c) : sProp 𝕄) from rfl]
  unfold zbar
  iintro ⟨⟨Hb, ⟨Hs1, Hs2, Hs3⟩, Hv1, Hv2, Hv3⟩, Hs, Hp⟩
  isplitl [Hs]; · iexact Hs
  isplitl [Hp]; · iexact Hp
  isplitr; · iempintro
  isplitr [Hb]
  · isplitl [Hs1]; · iexact Hs1
    isplitl [Hs2]; · iexact Hs2
    isplitl [Hs3]; · iexact Hs3
    isplitl [Hv1]; · iexact Hv1
    isplitl [Hv2]; · iexact Hv2
    iexact Hv3
  iexact Hb

theorem in3 (c : Dev nD) : iprop(Pipeline.scopedRest (Pipeline.pin (pcfgs (F := F)) adm 3).spec c ∗ (∃ r, prngReg c r)
    ∗ StableHlo.held (c.tc : Thread nD τ) ∅ (W7 m c) ∗ X3 m c) ⊢ ((pdats m 3 c).Φ 0 : sProp 𝕄) := by
  rw [held_none, show (pdats m 3 c).Φ 0 = (iprop(X3 m c ∗ rest (F := F) 3 c) : sProp 𝕄) from rfl]
  iintro ⟨Hs, Hp, -, HX⟩
  isplitl [HX]; · iexact HX
  isplitl [Hs]; · iexact Hs
  iexact Hp
theorem out3' (c : Dev nD) : ((pdats m 3 c).Φ (Fin.last (Pipeline.pin (pcfgs (F := F)) adm 3).N) : sProp 𝕄)
    ⊢ iprop(Pipeline.scopedRest (Pipeline.pin (pcfgs (F := F)) adm 3).spec c ∗ (∃ r, prngReg c r)
      ∗ StableHlo.held (c.tc : Thread nD τ) ∅ (W8 m c) ∗ Pipeline.ownSems0 osem3 c ∗ zbar 2 c) := by
  rw [held_none, own3, show (pdats m 3 c).Φ (Fin.last (Pipeline.pin (pcfgs (F := F)) adm 3).N)
    = (iprop((semVal (at_ c (barL 2)) 0 ∗ semVal (at_ c (sndL 4)) 0 ∗ semVal (at_ c (rcvL 4)) 0) ∗ rest (F := F) 3 c) : sProp 𝕄) from rfl]
  unfold zbar
  iintro ⟨⟨Hb, Hs4, Hv4⟩, Hs, Hp⟩
  isplitl [Hs]; · iexact Hs
  isplitl [Hp]; · iexact Hp
  isplitr; · iempintro
  isplitr [Hb]
  · isplitl [Hs4]; · iexact Hs4
    iexact Hv4
  iexact Hb

theorem in2 (c : Dev nD) : iprop(Pipeline.scopedRest (Pipeline.pin (pcfgs (F := F)) adm 2).spec c ∗ (∃ r, prngReg c r)
    ∗ StableHlo.held (c.tc : Thread nD τ) ∅ (W5 m c) ∗ emp) ⊢ ((pdats m 2 c).Φ 0 : sProp 𝕄) := by
  rw [held_none, show (pdats m 2 c).Φ 0 = (rest (F := F) 2 c : sProp 𝕄) from rfl]
  iintro ⟨Hs, Hp, -⟩
  isplitl [Hs]; · iexact Hs
  iexact Hp
theorem out2' (c : Dev nD) : ((pdats m 2 c).Φ (Fin.last (Pipeline.pin (pcfgs (F := F)) adm 2).N) : sProp 𝕄)
    ⊢ iprop(Pipeline.scopedRest (Pipeline.pin (pcfgs (F := F)) adm 2).spec c ∗ (∃ r, prngReg c r)
      ∗ StableHlo.held (c.tc : Thread nD τ) ∅ (W6 m c) ∗ Pipeline.ownSems0 (fun k : PEmpty => k.elim) c ∗ emp) := by
  rw [held_none, Pipeline.ownSems0_none, show (pdats m 2 c).Φ (Fin.last (Pipeline.pin (pcfgs (F := F)) adm 2).N) = (rest (F := F) 2 c : sProp 𝕄) from rfl]
  iintro ⟨Hs, Hp⟩
  isplitl [Hs]; · iexact Hs
  isplitl [Hp]; · iexact Hp
  isplitr; · iempintro
  isplitr; · iempintro
  iempintro

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ Sr0 (Finset.empty_subset _) kitP0 rfl (fun c => (oblig0 m c).loose)
    (fun c => due1 c + due3 c) (due0) (fun c => rfl) (fun c => rfl) (fun _ => rfl) (fun c w => (dat0 m c).share_full (fun _ => rfl) w)
    (W1 m) (W2 m) (fun c b hb => keep0 m c b hb)
    (fun c => iprop(Rec (vals m) ∗ kit0 c)) (zbar 0) (X0 m) (zbar 0) (open0 m) (in0 m) (out0' m)
    (fun c => by iintro H; imodintro; iexact H)
    (fun _ => 0)
    ⟨fun c w s => by rw [L_tc]; exact Finset.mem_singleton_self _, fun c w s => le_of_eq (stage_low0 w s), fun c t g i h => cut0 m c t g i h⟩
    (fun c => iprop(Rec (vals m) ∗ kit1 c ∗ kit3 c))
    (fun c w => entry0 m c w) (fun c w => exit0 m c w)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 (by decide : Pipeline.OwnSemFacts spec1 osem1)
    ∅ Sr1 (Finset.empty_subset _) kitP1 rfl (fun c => (oblig1 m c).loose)
    (due3) (due1) (fun c => rfl) (fun c => rfl) (fun _ => rfl) (fun c w => (dat1 m c).share_full (fun _ => rfl) w)
    (W3 m) (W4 m) (fun c b hb => keep1 m c b hb)
    (fun c => iprop(Rec (vals m) ∗ kit1 c)) (zbar 1) (X1 m) (zbar 1) (open1 m) (in1 m) (out1' m)
    (fun c => by iintro H; imodintro; iexact H)
    (fun _ => 0)
    ⟨fun c w s => by rw [L_tc]; exact Finset.mem_singleton_self _, fun c w s => le_of_eq (stage_low1 w s), fun c t g i h => cut1 m c t g i h⟩
    (fun c => iprop(Rec (vals m) ∗ zbar 0 c ∗ kit3 c))
    (fun c w => entry1 m c w) (fun c w => exit1 m c w)

set_option backward.isDefEq.respectTransparency.types false in
def reg3 : Pipeline.RegionSeg (pcfgs (F := F)) adm (pdats m) () defs₀ 𝒱₀ L lv 3 :=
  Pipeline.RegionSeg.ofTalk (pcfgs (F := F)) adm (pdats m) () defs₀ 𝒱₀ L lv 3 osem3 (by decide : Pipeline.OwnSemFacts spec3 osem3)
    ∅ Sr3 (Finset.empty_subset _) kitP3 rfl (fun c => (oblig3 m c).loose)
    (fun _ => 0) (due3) (fun c => (zero_add _).symm) (fun c => rfl) (fun _ => rfl) (fun c w => (dat3 m c).share_full (fun _ => rfl) w)
    (W7 m) (W8 m) (fun c b hb => keep3 m c b hb)
    (fun c => iprop(Rec (vals m) ∗ kit3 c)) (zbar 2) (X3 m) (zbar 2) (open3 m) (in3 m) (out3' m)
    (fun c => by iintro H; imodintro; iexact H)
    (fun _ => 0)
    ⟨fun c w s => by rw [L_tc]; exact Finset.mem_singleton_self _, fun c w s => le_of_eq (stage_low3 w s), fun c t g i h => cut3 m c t g i h⟩
    (fun c => iprop(zbar 0 c ∗ zbar 1 c))
    (fun c w => entry3 m c w) (fun c w => exit3 m c w)

set_option backward.isDefEq.respectTransparency.types false in
def reg2 : Pipeline.RegionSeg (pcfgs (F := F)) adm (pdats m) () defs₀ 𝒱₀ L lv 2 :=
  Pipeline.RegionSeg.ofTalk (pcfgs (F := F)) adm (pdats m) () defs₀ 𝒱₀ L lv 2 (fun k : PEmpty => k.elim) (Pipeline.OwnSemFacts.none _)
    ∅ Sr2 (Finset.empty_subset _) kitP2 rfl (fun c => (oblig2 m c).loose)
    (due3) (fun _ => 0) (fun c => (add_zero _).symm) (fun c => rfl) (fun _ => rfl) (fun c w => (dat2 m c).share_full (fun _ => rfl) w)
    (W5 m) (W6 m) (fun c b hb => keep2 m c b hb)
    (fun _ => iprop(emp)) (fun _ => iprop(emp)) (fun _ => iprop(emp)) (fun _ => iprop(emp)) (fun c => by iintro -; imodintro; iempintro) (in2 m) (out2' m)
    (fun c => by iintro H; imodintro; iexact H)
    (fun _ => 0)
    ⟨fun c w s => by rw [L_tc]; exact Finset.mem_singleton_self _, fun c w s => le_of_eq (stage_low2 w s), fun c t g i h => cut2 m c t g i h⟩
    (fun c => iprop((Rec (vals m) ∗ kit3 c) ∗ zbar 0 c ∗ zbar 1 c))
    (fun c w => entry2 m c w) (fun c w => exit2 m c w)

theorem pre0' (c : Dev nD) : iprop(StableHlo.held (c : Thread nD τ) (Pipeline.ucRefs τ sig) (W1 m c) ∗ E0 m c) ⊢ (reg0 m).pre c := by
  show _ ⊢ iprop(StableHlo.held (c.tc : Thread nD τ) (Pipeline.arrRefs (τ := τ) spec0) (W1 m c) ∗ (∃ r, prngReg c r)
    ∗ (StableHlo.held (c.tc : Thread nD τ) Sr0 (W1 m c) ∗ (Rec (vals m) ∗ kit1 c ∗ kit3 c)) ∗ (Rec (vals m) ∗ kit0 c) ∗ ∃ Wd, owes (c : Thread nD τ) (due1 c + due3 c + due0 c) Wd)
  rw [held_split0]
  unfold E0
  iintro ⟨⟨Ha, Hr⟩, ⟨#HR, Hk⟩, Ho, Hp, HO⟩
  isplitl [Ha]; · iexact Ha
  isplitl [Hp]; · iexact Hp
  isplitl [Hr Ho]
  · isplitl [Hr]; · iexact Hr
    isplitr; · iexact HR
    iexact Ho
  isplitl [Hk]
  · isplitr; · iexact HR
    iexact Hk
  iexact HO

theorem post0' (c : Dev nD) : (reg0 m).post c ⊢ iprop(StableHlo.held (c : Thread nD τ) (Pipeline.ucRefs τ sig) (W2 m c) ∗ E1 m c) := by
  show iprop(StableHlo.held (c.tc : Thread nD τ) (Pipeline.arrRefs (τ := τ) spec0) (W2 m c) ∗ (∃ r, prngReg c r)
    ∗ (StableHlo.held (c.tc : Thread nD τ) Sr0 (W2 m c) ∗ (Rec (vals m) ∗ kit1 c ∗ kit3 c)) ∗ zbar 0 c ∗ ∃ Wd, owes (c : Thread nD τ) (due1 c + due3 c) Wd) ⊢ _
  rw [held_split0]
  unfold E1
  iintro ⟨Ha, Hp, ⟨Hr, HR, H1, H3⟩, Hz, HO⟩
  isplitl [Ha Hr]
  · isplitl [Ha]; · iexact Ha
    iexact Hr
  isplitl [HR H1]
  · isplitl [HR]; · iexact HR
    iexact H1
  isplitl [Hz H3]
  · isplitl [Hz]; · iexact Hz
    iexact H3
  isplitl [Hp]; · iexact Hp
  rw [add_comm (due3 c) (due1 c)]
  iexact HO

theorem pre1' (c : Dev nD) : iprop(StableHlo.held (c : Thread nD τ) (Pipeline.ucRefs τ sig) (W3 m c) ∗ E1 m c) ⊢ (reg1 m).pre c := by
  show _ ⊢ iprop(StableHlo.held (c.tc : Thread nD τ) (Pipeline.arrRefs (τ := τ) spec1) (W3 m c) ∗ (∃ r, prngReg c r)
    ∗ (StableHlo.held (c.tc : Thread nD τ) Sr1 (W3 m c) ∗ (Rec (vals m) ∗ zbar 0 c ∗ kit3 c)) ∗ (Rec (vals m) ∗ kit1 c) ∗ ∃ Wd, owes (c : Thread nD τ) (due3 c + due1 c) Wd)
  rw [held_split1]
  unfold E1
  iintro ⟨⟨Ha, Hr⟩, ⟨#HR, Hk⟩, Ho, Hp, HO⟩
  isplitl [Ha]; · iexact Ha
  isplitl [Hp]; · iexact Hp
  isplitl [Hr Ho]
  · isplitl [Hr]; · iexact Hr
    isplitr; · iexact HR
    iexact Ho
  isplitl [Hk]
  · isplitr; · iexact HR
    iexact Hk
  iexact HO

theorem post1' (c : Dev nD) : (reg1 m).post c ⊢ iprop(StableHlo.held (c : Thread nD τ) (Pipeline.ucRefs τ sig) (W4 m c) ∗ E2 m c) := by
  show iprop(StableHlo.held (c.tc : Thread nD τ) (Pipeline.arrRefs (τ := τ) spec1) (W4 m c) ∗ (∃ r, prngReg c r)
    ∗ (StableHlo.held (c.tc : Thread nD τ) Sr1 (W4 m c) ∗ (Rec (vals m) ∗ zbar 0 c ∗ kit3 c)) ∗ zbar 1 c ∗ ∃ Wd, owes (c : Thread nD τ) (due3 c) Wd) ⊢ _
  rw [held_split1]
  unfold E2
  iintro ⟨Ha, Hp, ⟨Hr, HR, Hz0, H3⟩, Hz, HO⟩
  isplitl [Ha Hr]
  · isplitl [Ha]; · iexact Ha
    iexact Hr
  isplitl [HR H3]
  · isplitl [HR]; · iexact HR
    iexact H3
  isplitl [Hz0 Hz]
  · isplitl [Hz0]; · iexact Hz0
    iexact Hz
  isplitl [Hp]; · iexact Hp
  iexact HO

theorem pre2' (c : Dev nD) : iprop(StableHlo.held (c : Thread nD τ) (Pipeline.ucRefs τ sig) (W5 m c) ∗ E2 m c) ⊢ (reg2 m).pre c := by
  show _ ⊢ iprop(StableHlo.held (c.tc : Thread nD τ) (Pipeline.arrRefs (τ := τ) spec2) (W5 m c) ∗ (∃ r, prngReg c r)
    ∗ (StableHlo.held (c.tc : Thread nD τ) Sr2 (W5 m c) ∗ ((Rec (vals m) ∗ kit3 c) ∗ zbar 0 c ∗ zbar 1 c)) ∗ emp ∗ ∃ Wd, owes (c : Thread nD τ) (due3 c + 0) Wd)
  rw [held_split2]
  unfold E2
  rw [add_zero]
  iintro ⟨⟨Ha, Hr⟩, Hk, Ho, Hp, HO⟩
  isplitl [Ha]; · iexact Ha
  isplitl [Hp]; · iexact Hp
  isplitl [Hr Hk Ho]
  · isplitl [Hr]; · iexact Hr
    isplitl [Hk]; · iexact Hk
    iexact Ho
  isplitr; · iempintro
  iexact HO

theorem post2' (c : Dev nD) : (reg2 m).post c ⊢ iprop(StableHlo.held (c : Thread nD τ) (Pipeline.ucRefs τ sig) (W6 m c) ∗ E2 m c) := by
  show iprop(StableHlo.held (c.tc : Thread nD τ) (Pipeline.arrRefs (τ := τ) spec2) (W6 m c) ∗ (∃ r, prngReg c r)
    ∗ (StableHlo.held (c.tc : Thread nD τ) Sr2 (W6 m c) ∗ ((Rec (vals m) ∗ kit3 c) ∗ zbar 0 c ∗ zbar 1 c)) ∗ emp ∗ ∃ Wd, owes (c : Thread nD τ) (due3 c) Wd) ⊢ _
  rw [held_split2]
  unfold E2
  iintro ⟨Ha, Hp, ⟨Hr, Hk, Hz⟩, -, HO⟩
  isplitl [Ha Hr]
  · isplitl [Ha]; · iexact Ha
    iexact Hr
  isplitl [Hk]; · iexact Hk
  isplitl [Hz]; · iexact Hz
  isplitl [Hp]; · iexact Hp
  iexact HO

theorem pre3' (c : Dev nD) : iprop(StableHlo.held (c : Thread nD τ) (Pipeline.ucRefs τ sig) (W7 m c) ∗ E2 m c) ⊢ (reg3 m).pre c := by
  show _ ⊢ iprop(StableHlo.held (c.tc : Thread nD τ) (Pipeline.arrRefs (τ := τ) spec3) (W7 m c) ∗ (∃ r, prngReg c r)
    ∗ (StableHlo.held (c.tc : Thread nD τ) Sr3 (W7 m c) ∗ (zbar 0 c ∗ zbar 1 c)) ∗ (Rec (vals m) ∗ kit3 c) ∗ ∃ Wd, owes (c : Thread nD τ) (0 + due3 c) Wd)
  rw [held_split3]
  unfold E2
  rw [zero_add]
  iintro ⟨⟨Ha, Hr⟩, Hk, Ho, Hp, HO⟩
  isplitl [Ha]; · iexact Ha
  isplitl [Hp]; · iexact Hp
  isplitl [Hr Ho]
  · isplitl [Hr]; · iexact Hr
    iexact Ho
  isplitl [Hk]; · iexact Hk
  iexact HO

theorem post3' (c : Dev nD) : (reg3 m).post c ⊢ iprop(StableHlo.held (c : Thread nD τ) (Pipeline.ucRefs τ sig) (W8 m c) ∗ E4 c) := by
  show iprop(StableHlo.held (c.tc : Thread nD τ) (Pipeline.arrRefs (τ := τ) spec3) (W8 m c) ∗ (∃ r, prngReg c r)
    ∗ (StableHlo.held (c.tc : Thread nD τ) Sr3 (W8 m c) ∗ (zbar 0 c ∗ zbar 1 c)) ∗ zbar 2 c ∗ ∃ Wd, owes (c : Thread nD τ) (0 : CellTallies nD τ sig Unit) Wd) ⊢ _
  rw [held_split3]
  unfold E4
  iintro ⟨Ha, Hp, ⟨Hr, Hz⟩, Hz2, HO⟩
  isplitl [Ha Hr]
  · isplitl [Ha]; · iexact Ha
    iexact Hr
  isplitl [Hz2]; · iexact Hz2
  isplitl [Hz]; · iexact Hz
  isplitl [Hp]; · iexact Hp
  iexact HO

end Cert.Moe
-- ==== Proof.Run.lean ====
/-
  The launch of all devices, and the run of @main.
-/
module

public import proofs.«01_k».proof.Proof.Talks
public import Idealize.ShloMosaic.Lib.Pipeline.Quiescent
public import Idealize.ShloMosaic.Lib.Pipeline.RegionTalk
public import Idealize.ShloMosaic.Lib.Pipeline.Regions

@[expose] public section

noncomputable section

namespace Cert.Moe

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch element -/

/-- The cells whose payments' tokens are made at launch. -/
def tokL : Fin 13 → SemLoc sig := fun
  | 0 => barL 0 | 1 => barL 1 | 2 => barL 2
  | 3 => sndL 0 | 4 => sndL 1 | 5 => sndL 2 | 6 => sndL 3 | 7 => sndL 4
  | 8 => rcvL 0 | 9 => rcvL 1 | 10 => rcvL 2 | 11 => rcvL 3 | 12 => rcvL 4
theorem tokL_inj : Function.Injective tokL := by decide
def talkToks : Finset (GSem nD τ sig × ℕ × Unit) :=
  Finset.univ.map ⟨fun ck : Dev nD × Fin 13 => (at_ ck.1 (tokL ck.2), 0, ()), fun _ _ h =>
    Prod.ext (congrArg (fun t : GSem nD τ sig × ℕ × Unit => t.1.1.1) h) (tokL_inj (congrArg (fun t : GSem nD τ sig × ℕ × Unit => t.1.2) h))⟩

def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's launch resource, all of it on device 0 until it is dealt. -/
def G (c : Dev nD) : sProp 𝕄 := if c = 0 then BI.own (ER (launchOf barCells scCells talkToks)) else iprop(emp)
theorem bigSep_G : bigSep Finset.univ (G (F := F)) = (BI.own (ER (launchOf barCells scCells talkToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## The tokens dealt: each device holds the tokens of what it pays -/

abbrev T (c : Dev nD) (s : SemLoc sig) : sProp 𝕄 := dutyTok ER (at_ c s) 0 ()
def tokB (c : Dev nD) : sProp 𝕄 := iprop(T c (barL 0) ∗ T c (barL 1) ∗ T c (barL 2))
def tokS (c : Dev nD) : sProp 𝕄 := iprop(T c (sndL 0) ∗ T c (sndL 1) ∗ T c (sndL 2) ∗ T c (sndL 3) ∗ T c (sndL 4))
def tokV (c : Dev nD) : sProp 𝕄 := iprop(T c (rcvL 0) ∗ T c (rcvL 1) ∗ T c (rcvL 2) ∗ T c (rcvL 3) ∗ T c (rcvL 4))
def posB (c : Dev nD) : sProp 𝕄 := iprop(atPos ER (at_ c (barL 0)) 0 ∅ 0 ∗ atPos ER (at_ c (barL 1)) 0 ∅ 0 ∗ atPos ER (at_ c (barL 2)) 0 ∅ 0)
def opn (c : Dev nD) : sProp 𝕄 :=
  iprop((openTok ER (at_ c (sndL 0)) ∗ openTok ER (at_ c (sndL 1)) ∗ openTok ER (at_ c (sndL 2)) ∗ openTok ER (at_ c (sndL 3)) ∗ openTok ER (at_ c (sndL 4)))
    ∗ openTok ER (at_ c (rcvL 0)) ∗ openTok ER (at_ c (rcvL 1)) ∗ openTok ER (at_ c (rcvL 2)) ∗ openTok ER (at_ c (rcvL 3)) ∗ openTok ER (at_ c (rcvL 4)))

theorem univ3 : (Finset.univ : Finset (Fin 3)) = {0, 1, 2} := by decide
theorem univ10 : (Finset.univ : Finset (Fin 10)) = {0, 1, 2, 3, 4, 5, 6, 7, 8, 9} := by decide
theorem univ13 : (Finset.univ : Finset (Fin 13)) = {0, 1, 2, 3, 4, 5, 6, 7, 8, 9, 10, 11, 12} := by decide
theorem univ8 : (Finset.univ : Finset (Fin 8)) = {0, 1, 2, 3, 4, 5, 6, 7} := by decide

theorem over3 (Φ : Fin 3 → sProp 𝕄) : bigSep Finset.univ Φ = iprop(Φ 0 ∗ Φ 1 ∗ Φ 2) := by
  rw [univ3, bigSep_insert (by decide), bigSep_insert (by decide), bigSep_singleton]; rfl
theorem over8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [univ8, bigSep_insert (by decide), bigSep_insert (by decide), bigSep_insert (by decide), bigSep_insert (by decide), bigSep_insert (by decide), bigSep_insert (by decide), bigSep_insert (by decide), bigSep_singleton]; rfl
theorem over10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [univ10, bigSep_insert (by decide), bigSep_insert (by decide), bigSep_insert (by decide), bigSep_insert (by decide), bigSep_insert (by decide), bigSep_insert (by decide), bigSep_insert (by decide), bigSep_insert (by decide), bigSep_insert (by decide), bigSep_singleton]; rfl
theorem over13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [univ13, bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]; rfl

theorem toks_of (c : Dev nD) : (bigSep Finset.univ fun k : Fin 13 => (T c (tokL k) : sProp 𝕄)) ⊢ iprop(tokB c ∗ tokS c ∗ tokV c) := by
  rw [over13]; unfold tokB tokS tokV
  show iprop(T c (barL 0) ∗ T c (barL 1) ∗ T c (barL 2) ∗ T c (sndL 0) ∗ T c (sndL 1) ∗ T c (sndL 2) ∗ T c (sndL 3) ∗ T c (sndL 4) ∗ T c (rcvL 0) ∗ T c (rcvL 1) ∗ T c (rcvL 2) ∗ T c (rcvL 3) ∗ T c (rcvL 4)) ⊢ _
  iintro ⟨A, B, C, S0, S1, S2, S3, S4, V0, V1, V2, V3, V4⟩
  isplitl [A B C]
  · isplitl [A]; · iexact A
    isplitl [B]; · iexact B
    iexact C
  isplitl [S0 S1 S2 S3 S4]
  · isplitl [S0]; · iexact S0
    isplitl [S1]; · iexact S1
    isplitl [S2]; · iexact S2
    isplitl [S3]; · iexact S3
    iexact S4
  isplitl [V0]; · iexact V0
  isplitl [V1]; · iexact V1
  isplitl [V2]; · iexact V2
  isplitl [V3]; · iexact V3
  iexact V4

theorem toks_dealt : bigSep talkToks (fun x => (dutyTok ER x.1 x.2.1 x.2.2 : sProp 𝕄)) ⊢ bigSep Finset.univ fun c : Dev nD => iprop(tokB (pr c) ∗ tokS c ∗ tokV (pr c)) := by
  have h : bigSep talkToks (fun x => (dutyTok ER x.1 x.2.1 x.2.2 : sProp 𝕄)) = bigSep Finset.univ fun c : Dev nD => bigSep Finset.univ fun k : Fin 13 => (T c (tokL k) : sProp 𝕄) := by
    unfold talkToks; rw [bigSep_map, bigSep_univ_prod]; rfl
  rw [h]
  refine (bigSep_mono fun c _ => toks_of c).trans ?_
  have e : Function.Involutive pr := pr_pr
  rw [bigSep_sep', bigSep_sep', bigSep_sep', bigSep_sep', bigSep_univ_equiv e.toPerm (fun c : Dev nD => (tokB c : sProp 𝕄)), bigSep_univ_equiv e.toPerm (fun c : Dev nD => (tokV c : sProp 𝕄))]
  exact BI.Entails.refl _

theorem pos_dealt : bigSep barCells (fun g => (atPos ER g 0 ∅ 0 : sProp 𝕄)) ⊢ bigSep Finset.univ fun c : Dev nD => (posB c : sProp 𝕄) :=
  Entails.of_eq (by
    rw [bigSep_map, bigSep_univ_prod]
    exact bigSep_congr fun c _ => over3 (fun k : Fin 3 => (atPos ER (at_ c (barL k)) 0 ∅ 0 : sProp 𝕄)))
theorem val_dealt : bigSep Finset.univ (fun c : Dev nD => (iprop(zbar 0 c ∗ zbar 1 c ∗ zbar 2 c) : sProp 𝕄)) ⊢ bigSep barCells (fun g => (semVal g 0 : sProp 𝕄)) :=
  Entails.of_eq (by
    rw [bigSep_map, bigSep_univ_prod]
    exact bigSep_congr fun c _ => (over3 (fun k : Fin 3 => (semVal (at_ c (barL k)) 0 : sProp 𝕄))).symm)
theorem opn_of (c : Dev nD) : (bigSep Finset.univ fun k : Fin 10 => (openTok ER (at_ c (scL k)) : sProp 𝕄)) ⊢ opn c := by
  rw [over10]; unfold opn
  show iprop(openTok ER (at_ c (sndL 0)) ∗ openTok ER (at_ c (sndL 1)) ∗ openTok ER (at_ c (sndL 2)) ∗ openTok ER (at_ c (sndL 3)) ∗ openTok ER (at_ c (sndL 4)) ∗ openTok ER (at_ c (rcvL 0)) ∗ openTok ER (at_ c (rcvL 1)) ∗ openTok ER (at_ c (rcvL 2)) ∗ openTok ER (at_ c (rcvL 3)) ∗ openTok ER (at_ c (rcvL 4))) ⊢ _
  iintro ⟨S0, S1, S2, S3, S4, V0, V1, V2, V3, V4⟩
  isplitl [S0 S1 S2 S3 S4]
  · isplitl [S0]; · iexact S0
    isplitl [S1]; · iexact S1
    isplitl [S2]; · iexact S2
    isplitl [S3]; · iexact S3
    iexact S4
  isplitl [V0]; · iexact V0
  isplitl [V1]; · iexact V1
  isplitl [V2]; · iexact V2
  isplitl [V3]; · iexact V3
  iexact V4

theorem opn_dealt : bigSep scCells (fun g => (openTok ER g : sProp 𝕄)) ⊢ bigSep Finset.univ fun c : Dev nD => (opn c : sProp 𝕄) := by
  have h : bigSep scCells (fun g => (openTok ER g : sProp 𝕄)) = bigSep Finset.univ fun c : Dev nD => bigSep Finset.univ fun k : Fin 10 => (openTok ER (at_ c (scL k)) : sProp 𝕄) := by
    rw [bigSep_map, bigSep_univ_prod]; rfl
  rw [h]
  exact bigSep_mono fun c _ => opn_of c

/-! ## The credit a device is launched with: what its partner owes it -/

def paid : Fin 8 → SemLoc sig := fun
  | 0 => barL 0 | 1 => barL 1 | 2 => barL 2 | 3 => rcvL 0 | 4 => rcvL 1 | 5 => rcvL 2 | 6 => rcvL 3 | 7 => rcvL 4
theorem paid_inj : Function.Injective paid := by decide
/-- All a device owes at launch. -/
abbrev O₀ (c : Dev nD) : CellTallies nD τ sig Unit := due1 c + due3 c + due0 c
theorem O₀_sum (c : Dev nD) : O₀ c = ∑ k : Fin 8, owed c (paid k) := by
  rw [Fin.sum_univ_eight]
  show due1 c + due3 c + due0 c = owed c (barL 0) + owed c (barL 1) + owed c (barL 2) + owed c (rcvL 0) + owed c (rcvL 1) + owed c (rcvL 2) + owed c (rcvL 3) + owed c (rcvL 4)
  unfold due0 due1 due3
  ac_rfl
theorem owed_apply (d c : Dev nD) (j k : Fin 8) : owed d (paid j) (at_ c (paid k)) () = if j = k then (if d = pr c then amt (paid k) else 0) else 0 := by
  unfold owed
  rw [tallyAt_apply]
  by_cases hj : j = k
  · subst hj
    rw [if_pos rfl]
    by_cases h : d = pr c
    · subst h; rw [pr_pr, if_pos ⟨rfl, rfl⟩, if_pos rfl]
    · rw [if_neg (fun ⟨h1, _⟩ => h (by rw [← pr_pr d]; exact congrArg pr (congrArg (fun g : GSem nD τ sig => g.1.1) h1).symm)), if_neg h]
  · rw [if_neg (fun ⟨h1, _⟩ => hj (paid_inj (congrArg Prod.snd h1)).symm), if_neg hj]
theorem O₀_apply (d c : Dev nD) (k : Fin 8) : O₀ d (at_ c (paid k)) () = if d = pr c then amt (paid k) else 0 := by
  rw [O₀_sum, Finset.sum_apply, Finsupp.finset_sum_apply, Finset.sum_congr rfl fun j _ => owed_apply d c j k, Finset.sum_ite_eq' Finset.univ k fun _ => _,
    if_pos (Finset.mem_univ _)]
theorem credit_at (c : Dev nD) (k : Fin 8) :
    tallyOn (at_ c (paid k)) (launchCredit (Pipeline.owing O₀) 0 (at_ c (paid k))) = (tallyAt (at_ c (paid k)) () (amt (paid k)) : CellTallies nD τ sig Unit) := by
  unfold tallyAt; refine congrArg _ (Finsupp.ext fun u => ?_); cases u
  rw [Pipeline.launchCredit_owing, Finsupp.single_eq_same, Finset.sum_congr rfl fun d _ => O₀_apply d c k, Finset.sum_ite_eq' Finset.univ (pr c) fun _ => _,
    if_pos (Finset.mem_univ _)]

abbrev C (c : Dev nD) (s : SemLoc sig) : sProp 𝕄 := cred (tallyAt (at_ c s) () (amt s))
def crd (c : Dev nD) : sProp 𝕄 := bigSep Finset.univ fun k : Fin 8 => (C c (paid k) : sProp 𝕄)
theorem crd_of (c : Dev nD) : (Pipeline.launchCred O₀ c : sProp 𝕄) ⊢ crd c := by
  unfold Pipeline.launchCred crd
  refine (bigSep_subset (Finset.subset_univ (Finset.univ.map ⟨paid, paid_inj⟩))).trans ?_
  rw [bigSep_map]
  exact bigSep_mono fun k _ => Entails.of_eq (congrArg cred (credit_at c k))

/-! ## The first state of every core -/

/-- What of a core's launch holdings is not the protocol's shared state. -/
def bundle (c : Dev nD) : sProp 𝕄 :=
  iprop(StableHlo.held (c : Thread nD τ) (Pipeline.ucRefs τ sig) (W0 m c) ∗ crd c ∗ owes (c : Thread nD τ) (O₀ c) ∅ ∗ ∃ r, prngReg c r)
/-- What of the protocol's launch state stays with a device. -/
def mine (c : Dev nD) : sProp 𝕄 := iprop(posB c ∗ opn c ∗ (tokB (pr c) ∗ tokS c ∗ tokV (pr c)))

abbrev T₀ (c : Dev nD) : sProp 𝕄 := iprop(StableHlo.held (c : Thread nD τ) (Pipeline.ucRefs τ sig) (W0 m c) ∗ E0 m c)

theorem first (c : Dev nD) : iprop(Rec (vals m) ∗ (mine c ∗ bundle m c)) ⊢ T₀ m c := by
  show _ ⊢ iprop(StableHlo.held (c : Thread nD τ) (Pipeline.ucRefs τ sig) (W0 m c) ∗ E0 m c)
  unfold mine bundle E0 kit0 kit1 kit3 barKit dormKit posB opn tokB tokS tokV crd
  rw [over8]
  iintro ⟨HR, ⟨⟨P0, P1, P2⟩, ⟨⟨OS0, OS1, OS2, OS3, OS4⟩, OV0, OV1, OV2, OV3, OV4⟩, ⟨B0, B1, B2⟩, ⟨S0, S1, S2, S3, S4⟩, V0, V1, V2, V3, V4⟩,
    Hh, ⟨C0, C1, C2, D0, D1, D2, D3, D4⟩, HO, Hp⟩
  isplitl [Hh]; · iexact Hh
  isplitl [HR P0 B0 C0 OS0 OV0 S0 V0 D0]
  · isplitl [HR]; · iexact HR
    isplitl [P0 B0 C0]
    · isplitl [P0]; · iexact P0
      isplitl [B0]; · iexact B0
      iexact C0
    isplitl [OS0]; · iexact OS0
    isplitl [OV0]; · iexact OV0
    isplitl [S0]; · iexact S0
    isplitl [V0]; · iexact V0
    iexact D0
  isplitr [HO Hp]
  · isplitr [P2 B2 C2 OS4 OV4 S4 V4 D4]
    · isplitl [P1 B1 C1]
      · isplitl [P1]; · iexact P1
        isplitl [B1]; · iexact B1
        iexact C1
      isplitl [OS1 OV1 S1 V1 D1]
      · isplitl [OS1]; · iexact OS1
        isplitl [OV1]; · iexact OV1
        isplitl [S1]; · iexact S1
        isplitl [V1]; · iexact V1
        iexact D1
      isplitl [OS2 OV2 S2 V2 D2]
      · isplitl [OS2]; · iexact OS2
        isplitl [OV2]; · iexact OV2
        isplitl [S2]; · iexact S2
        isplitl [V2]; · iexact V2
        iexact D2
      isplitl [OS3]; · iexact OS3
      isplitl [OV3]; · iexact OV3
      isplitl [S3]; · iexact S3
      isplitl [V3]; · iexact V3
      iexact D3
    isplitl [P2 B2 C2]
    · isplitl [P2]; · iexact P2
      isplitl [B2]; · iexact B2
      iexact C2
    isplitl [OS4]; · iexact OS4
    isplitl [OV4]; · iexact OV4
    isplitl [S4]; · iexact S4
    isplitl [V4]; · iexact V4
    iexact D4
  isplitl [Hp]; · iexact Hp
  iexists ∅; iexact HO

theorem unscopedSems_eq (c : Dev nD) : (unscopedSems0 c : sProp 𝕄) = iprop(zbar 0 c ∗ zbar 1 c ∗ zbar 2 c) := by
  unfold unscopedSems0
  rw [show (Finset.univ.filter fun sm : SemLoc sig => ¬ sm.isScoped .tc) = Finset.univ.map ⟨barL, barL_inj⟩ from by decide, bigSep_map]
  exact over3 (fun k : Fin 3 => (semVal (at_ c (barL k)) 0 : sProp 𝕄))

theorem core_of (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ ((zbar 0 c ∗ zbar 1 c ∗ zbar 2 c) ∗ G c)) : sProp 𝕄) := by
  rw [show unscopedBufs c (fun b => m ((c : Thread nD τ).loc b)) = StableHlo.held (c : Thread nD τ) (Pipeline.ucRefs τ sig) (W0 m c)
    from Pipeline.unscopedBufs_held (Ix := Unit) (Name := ℕ) (U := UU) (Lvl := ℕ) c (W0 m c), unscopedSems_eq]
  unfold bundle
  iintro ⟨Hh, Hus, HO, Hcr, Hp, HG⟩
  ihave Hc := (crd_of (F := F) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have h2 : (bigSep Finset.univ fun c : Dev nD => iprop(bundle m c ∗ ((zbar 0 c ∗ zbar 1 c ∗ zbar 2 c) ∗ G c)))
      = (iprop((bigSep Finset.univ fun c : Dev nD => bundle m c) ∗ (bigSep Finset.univ fun c : Dev nD => iprop(zbar 0 c ∗ zbar 1 c ∗ zbar 2 c))
        ∗ BI.own (ER (launchOf barCells scCells talkToks))) : sProp 𝕄) := by
    rw [bigSep_sep', bigSep_sep' Finset.univ (fun c : Dev nD => iprop(zbar 0 c ∗ zbar 1 c ∗ zbar 2 c)) (G (F := F)), bigSep_G]
  have h3 : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop((bigSep Finset.univ fun c : Dev nD => bundle m c) ∗ (bigSep Finset.univ fun c : Dev nD => iprop(zbar 0 c ∗ zbar 1 c ∗ zbar 2 c))
        ∗ BI.own (ER (launchOf barCells scCells talkToks))) : sProp 𝕄) := by
    rw [← h2]; exact bigSep_mono fun c _ => core_of m ρ c
  iintro ⟨H, -⟩
  ihave H' := h3 $$ H
  icases H' with ⟨HB, Hv, Hu⟩
  imod (Rounds.fund_launch ER (rd (vals m)) disjoint_cells (fun g _ h => h) talkToks) $$ [Hv Hu] with ⟨%κ, -, Hinv, Hr, Hat, Hopen, Htok⟩
  · isplitl [Hv]
    · iapply (val_dealt (F := F)) $$ Hv
    · iexact Hu
  imodintro
  iapply (bigSep_with_persistent (R := Rec (vals m)) (Φ := fun c => iprop(mine c ∗ bundle m c)) fun c _ => first m c)
  isplitl [Hinv Hr]
  · unfold Rec records
    iexists κ
    isplitl [Hinv]; · iexact Hinv
    iexact Hr
  rw [bigSep_sep']
  isplitr [HB]
  · unfold mine
    rw [bigSep_sep', bigSep_sep']
    isplitl [Hat]; · iapply (pos_dealt (F := F)) $$ Hat
    isplitl [Hopen]; · iapply (opn_dealt (F := F)) $$ Hopen
    iapply (toks_dealt (F := F)) $$ Htok
  · iexact HB

/-! ## The run -/

/-- The host operations of @main before kernel 0. -/
def host0 (c : Dev nD) : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps0 c)
    (fun op h => Pipeline.sub_ucRefs op ((List.forall_iff_forall_mem.mp (hostOps0_sub c)) op h))
    (fun op h => (List.forall_iff_forall_mem.mp (hostOps0_fresh c)) op h) (W0 m) (E0 m)
/-- The host operations of @main before kernel 1. -/
def host1 : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps1)
    (fun op h => Pipeline.sub_ucRefs op ((List.forall_iff_forall_mem.mp hostOps1_sub) op h))
    (fun op h => (List.forall_iff_forall_mem.mp hostOps1_fresh) op h) (W2 m) (E1 m)
/-- The host operations of @main before kernel 2. -/
def host2 : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps2)
    (fun op h => Pipeline.sub_ucRefs op ((List.forall_iff_forall_mem.mp hostOps2_sub) op h))
    (fun op h => (List.forall_iff_forall_mem.mp hostOps2_fresh) op h) (W4 m) (E2 m)
/-- The host operations of @main before kernel 3. -/
def host3 : Pipeline.HostSeg (Ix := Unit) (Name := ℕ) (U := UU) (Lvl := ℕ) (pcfgs (F := F)) defs₀ 𝒱₀ L lv :=
  Pipeline.HostSeg.ofOps _ _ _ _ _ (Pipeline.ucRefs τ sig) (hostOps3)
    (fun op h => Pipeline.sub_ucRefs op ((List.forall_iff_forall_mem.mp hostOps3_sub) op h))
    (fun op h => (List.forall_iff_forall_mem.mp hostOps3_fresh) op h) (W6 m) (E2 m)

/-- @main as the list of its items. -/
def items (c : Dev nD) : List (Pipeline.Seg (pcfgs (F := F)) adm (pdats m) () defs₀ 𝒱₀ L lv) :=
  [.host (host0 m c), .region (reg0 m), .host (host1 m), .region (reg1 m), .host (host2 m), .region (reg2 m), .host (host3 m), .region (reg3 m)]

theorem kept (c : Dev nD) (r : Ref sig .tc) (h0 : r ∉ hostOps0_W) (h1 : r ∉ hostOps1_W) (h2 : r ∉ hostOps2_W) (h3 : r ∉ hostOps3_W)
    (hr : r ∉ ([main_v5, main_v27_0, main_v27_1, main_v27_2, main_v45, main_v48] : List (Ref sig .tc))) : W8 m c r = m ((c : Thread nD τ).loc r) := by
  simp only [List.mem_cons, List.not_mem_nil, not_or] at hr
  obtain ⟨a, b, d, e, f, g, -⟩ := hr
  have ne {x y : Ref sig .tc} (h : ¬ x = y) : (Proc.devRef .tc x : DevRef τ sig) ≠ Proc.devRef .tc y := StableHlo.devRef_ne_of_ne h
  rw [W8_of m c _ (ne g)]; unfold W7; rw [StableHlo.after_of_writes_sub hostOps3 _ hostOps3_writes h3]
  rw [W6_of m c _ (ne f)]; unfold W5; rw [StableHlo.after_of_writes_sub hostOps2 _ hostOps2_writes h2]
  rw [W4_of m c _ (ne b) (ne d) (ne e)]; unfold W3; rw [StableHlo.after_of_writes_sub hostOps1 _ hostOps1_writes h1]
  rw [W2_of m c _ (ne a)]; unfold W1; rw [StableHlo.after_of_writes_sub (hostOps0 c) _ (hostOps0_writes c) h0]
  rfl

abbrev Tₙ (c : Dev nD) : sProp 𝕄 := iprop(StableHlo.held (c : Thread nD τ) (Pipeline.ucRefs τ sig) (W8 m c) ∗ (zbar 0 c ∗ zbar 1 c ∗ zbar 2 c))

/-- What a core's final state is read for. -/
def Ends (c : Dev nD) (s : MemSt nD τ sig (Elt F)) : Prop :=
  (∀ r : Ref sig .tc, Proc.devRef .tc r ∈ Pipeline.ucRefs τ sig → s.mem ((c : Thread nD τ).loc r) = W8 m c r)
    ∧ ∀ sm : SemLoc sig, sm.isScoped .tc = false → s.sem ((c : Thread nD τ), sm) = 0

theorem read_end (c : Dev nD) (s' : Phys nD τ sig (Elt F)) : iprop(Tₙ m c ∗ SI s') ⊢ |={Set.univ}=> (iprop(⌜Ends m c s'.mem⌝ ∗ SI s') : sProp 𝕄) := by
  show iprop((StableHlo.held (c : Thread nD τ) (Pipeline.ucRefs τ sig) (W8 m c) ∗ (zbar 0 c ∗ zbar 1 c ∗ zbar 2 c)) ∗ SI s') ⊢ _
  rw [← unscopedSems_eq]
  unfold StableHlo.held
  iintro ⟨⟨Hh, Hz⟩, HSI⟩
  ihave Hr := (pointsTo_read_all (Pipeline.ucRefs τ sig) (fun b => ((c : Thread nD τ).1, b)) (W8 m c) s') $$ [Hh HSI]
  · isplitl [Hh] <;> iassumption
  icases Hr with ⟨%h, HSI⟩
  ihave %hz := (tcUnscoped_read c s') $$ [Hz HSI]
  · isplitl [Hz] <;> iassumption
  imodintro
  isplitr
  · ipureintro; exact ⟨fun r hr => h (Proc.devRef .tc r) hr, hz⟩
  · iexact HSI

set_option backward.isDefEq.respectTransparency.types false in
/-- Every execution of @main on the 32 devices ends, each device's buffers as the chain of items leaves them, and every
    semaphore counter of the machine at zero. -/
theorem run_all : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [
          StableHlo.seq (hostOps0 c),
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Pipeline.Seg.pipes_host, Pipeline.Seg.pipes_region, Pipeline.Seg.pipes_nil]; decide)
    (O₀ := O₀) (hL := L_of_ne) (G := G) (u₀ := u₀ (F := F))
    (hu₀ := by
      unfold u₀
      rw [bigSep_G]
      iintro Hu
      ihave H := (ownU_pair _ _) $$ Hu
      icases H with ⟨HP, HX⟩
      imodintro
      isplitl [HP]; · iexact HP
      iexact HX)
    (T₀ := T₀ m) (Tₙ := Tₙ m)
    (hch := fun c => ⟨.rfl, pre0' m c, post0' m c, pre1' m c, post1' m c, pre2' m c, post2' m c, pre3' m c, (post3' m c).trans (by
      unfold E4
      iintro ⟨Hh, Hz2, ⟨Hz0, Hz1⟩, -, HO⟩
      isplitr [HO]
      · isplitl [Hh]; · iexact Hh
        isplitl [Hz0]; · iexact Hz0
        isplitl [Hz1]; · iexact Hz1
        iexact Hz2
      iexact HO)⟩)
    (hinit := launch m ρ) (QY := Ends m) (hfin := read_end m)
    (hQ := fun s h hs => ⟨h, sem_eq_zero hs fun c sm hsm => (h c).2 sm hsm⟩)

theorem uc_mem {r : Ref sig .tc} (h : r.isScoped = false) : (Proc.devRef .tc r : DevRef τ sig) ∈ Pipeline.ucRefs τ sig :=
  Finset.mem_filter.mpr ⟨StableHlo.devRef_mem_tcRefs r, by rw [← Bool.not_eq_true] at h; exact h⟩

/-- @main ends with its result combined from both partial sums, its arguments unchanged and every counter at zero. -/
theorem run_main : θ_run defs (onTc (τ := τ) (main (F := F))) ⟨m, fun _ => 0, ρ⟩ (fun r => (∀ c : Dev nD,
      r.2.mem ((c : Thread nD τ).loc main_v48) = comb (vals m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c =>
    ⟨((h.1 c).1 main_v48 (uc_mem (by decide))).trans (W8_v48 m c),
      ((h.1 c).1 main_arg0 (uc_mem (by decide))).trans (kept m c main_arg0 (by decide) (by decide) (by decide) (by decide) (by decide)),
      ((h.1 c).1 main_arg1 (uc_mem (by decide))).trans (kept m c main_arg1 (by decide) (by decide) (by decide) (by decide) (by decide)),
      ((h.1 c).1 main_arg2 (uc_mem (by decide))).trans (kept m c main_arg2 (by decide) (by decide) (by decide) (by decide) (by decide)),
      ((h.1 c).1 main_arg3 (uc_mem (by decide))).trans (kept m c main_arg3 (by decide) (by decide) (by decide) (by decide) (by decide))⟩, h.2⟩) (run_all m ρ)

end Cert.Moe
-- ==== Proof.Same.lean ====
/-
  The program as printed and the idealized program are one text.

  The idealized program applies no rewrite and names no constant, so at the bit-exact floats its body table and its main
  equal the printed program's. The equalities are read part by part: each kernel's body, each call's pipeline, the table
  of bodies, and main.
-/
module

public import proofs.«01_k».proof.Defs
public import proofs.«01_k».proof.Proof.Gen.Kernel
public import proofs.«01_k».proof.Proof.Gen.KernelIdeal

@[expose] public section

set_option maxHeartbeats 4000000

namespace Cert.Moe

open Idealize.ShloMosaic Idealize.SL.Sem

/-- The four kernels' bodies, as one table of labels. -/
theorem same_bodies : Cert.Kernel.defs₀ (F := Bits) = Cert.KernelIdeal.defs₀ (F := Bits) := by
  unfold Cert.Kernel.defs₀ Cert.KernelIdeal.defs₀
  congr 1
  funext l a
  match l, a with
  | 0, (t, s) => rfl
  | 1, (t, s) => rfl
  | 2, (t, s) => rfl
  | 3, (t, s) => rfl

/-- The four calls' pipelines. -/
theorem same_calls : Cert.Kernel.pcfgs (F := Bits) = Cert.KernelIdeal.pcfgs (F := Bits) := by
  funext p
  match p with
  | 0 => rfl
  | 1 => rfl
  | 2 => rfl
  | 3 => rfl

/-- The host program. -/
theorem same_main : Cert.Kernel.main (F := Bits) = Cert.KernelIdeal.main (F := Bits) := by
  funext d
  with_unfolding_all rfl

/-- The whole body table: the pipelines over the bodies. -/
theorem same_defs : Cert.Kernel.defs (F := Bits) = Cert.KernelIdeal.defs (F := Bits) := by
  show Pipeline.defs (Cert.Kernel.pcfgs (F := Bits)) (Cert.Kernel.defs₀ (F := Bits)) = _
  rw [same_bodies]
  show Pipeline.defs (Cert.Kernel.pcfgs (F := Bits)) (Cert.KernelIdeal.defs₀ (F := Bits)) = Pipeline.defs (Cert.KernelIdeal.pcfgs (F := Bits)) (Cert.KernelIdeal.defs₀ (F := Bits))
  congr 1

end Cert.Moe
-- ==== Proof.Mix.lean ====
/-
  The mixture of experts as a function of one token, over the extended reals, and the reading of `top_k` by rows.
-/
module

public import Idealize.ShloMosaic.Lib.Pointwise
public import Idealize.ShloMosaic.Lib.SortFacts

@[expose] public section

noncomputable section

namespace Cert.Moe

open Idealize.ShloMosaic

/-! ## The function -/

/-- A token's gates: its product with the router's columns. -/
def gate (x : Fin 1024 → EReal) (R : Fin 1024 → Fin 8 → EReal) (e : Fin 8) : EReal := ∑ k, x k * R k e

/-- The two experts with the greatest gates, the lower first where two gates are equal. -/
def pick (g : Fin 8 → EReal) (i : Fin 2) : Fin 8 :=
  sortedFrom (fun k k' => FloatOps.cmpfTotal (F := Ideal) (φ := .f32) .gt (g k) (g k') == 1#1) ⟨i.val, by omega⟩

/-- The two choices differ. -/
theorem pick_ne (g : Fin 8 → EReal) : pick g 0 ≠ pick g 1 := fun h =>
  absurd (congrArg Fin.val (sortedFrom_injective _ h)) (by decide)

/-- The word of minus infinity. -/
abbrev negInf : EReal := Ideal.ofBits .f32 0xFF800000#32

/-- The narrower format's word of minus infinity is the same value. -/
theorem negInf_narrow : Ideal.ofBits .bf16 0xFF80#16 = negInf := by simp [negInf, Ideal.ofBits, Ideal.ieee]

/-- The softmax of two gates. -/
def soft (v : Fin 2 → EReal) (i : Fin 2) : EReal :=
  Ideal.div (Ideal.exp (v i - Finset.fold max negInf v Finset.univ))
    (∑ j, Ideal.exp (v j - Finset.fold max negInf v Finset.univ))

/-- The weight of a token's choice. -/
def wgt (g : Fin 8 → EReal) (i : Fin 2) : EReal := soft (fun j => g (pick g j)) i

/-- One expert's output at one column: product, rectifier, product. -/
def ffn (x : Fin 1024 → EReal) (U : Fin 1024 → Fin 2048 → EReal) (D : Fin 2048 → EReal) : EReal :=
  ∑ f, max (∑ k, x k * U k f) 0 * D f

/-- What one expert adds to a token whose gates are `g`, its output being `y`: over the two choices, the output weighted
    where the choice is this expert. -/
def share (g : Fin 8 → EReal) (e : Fin 8) (y : EReal) : EReal := ∑ i, if pick g i = e then y * wgt g i else 0

/-- The layer's output at one column: the experts' shares added up. -/
def moe (x : Fin 1024 → EReal) (R : Fin 1024 → Fin 8 → EReal) (U : Fin 8 → Fin 1024 → Fin 2048 → EReal)
    (D : Fin 8 → Fin 2048 → EReal) : EReal :=
  ∑ e, share (gate x R) e (ffn x (U e) (D e))

/-! ## Two spellings of a share, and of the sum over experts -/

/-- Weighting an expert's output by the sum of the weights of the choices that take it gives its share: at most one of the
    two choices does. -/
theorem share_eq (g : Fin 8 → EReal) (e : Fin 8) (y : EReal) :
    y * (∑ i, wgt g i * (if pick g i = e then 1 else 0)) = share g e y := by
  unfold share
  rw [Fin.sum_univ_two, Fin.sum_univ_two]
  by_cases h0 : pick g 0 = e <;> by_cases h1 : pick g 1 = e
  · exact absurd (h0.trans h1.symm) (pick_ne g)
  all_goals simp [h0, h1]

/-- The experts of the two halves. -/
def expert (h : Fin 2) (l : Fin 4) : Fin 8 := ⟨4 * h.val + l.val, by omega⟩

/-- The sum over all experts is the sum of the halves' sums, in either order. -/
theorem sum_halves (f : Fin 8 → EReal) (a b : Fin 2) (hab : a ≠ b) :
    (∑ l, f (expert a l)) + (∑ l, f (expert b l)) = ∑ e, f e := by
  have h01 : (∑ l, f (expert 0 l)) + (∑ l, f (expert 1 l)) = ∑ e, f e := by
    rw [Fin.sum_univ_four, Fin.sum_univ_four, Fin.sum_univ_eight]
    simp only [expert]
    simp only [Fin.isValue, Fin.val_zero, Fin.val_one, Fin.val_two, mul_zero, zero_add, Fin.zero_eta, Fin.mk_one]
    show f 0 + f 1 + f 2 + f 3 + (f 4 + f 5 + f 6 + f 7) = _
    ac_rfl
  match a, b with
  | 0, 1 => exact h01
  | 1, 0 => rw [add_comm]; exact h01
  | 0, 0 => exact absurd rfl hab
  | 1, 1 => exact absurd rfl hab

/-- A maximum with the value that a fold of maxima starts from changes nothing. -/
theorem max_start (v : Fin 2 → EReal) : max negInf (Finset.fold max negInf v Finset.univ) = Finset.fold max negInf v Finset.univ :=
  max_eq_right ((Finset.le_fold_max negInf).2 (.inl le_rfl))

/-! ## `top_k` of a matrix with eight columns, by rows -/

section TopK

variable {N : ℕ} {φ : FTy} (x : FVec Ideal (⟨2, ![N, 8]⟩ : Shape) φ) (h : Shape.Slices (⟨2, ![N, 8]⟩ : Shape) (fun _ => 0) (⟨2, ![N, 2]⟩ : Shape))

/-- The place in the whole matrix of an index of the cut to two columns. -/
def cut (j : (⟨2, ![N, 2]⟩ : Shape).Idx) : (⟨2, ![N, 8]⟩ : Shape).Idx :=
  fun a => ⟨0 + (j (a.cast h.1.symm)).val, Nat.lt_of_lt_of_le (Nat.add_lt_add_left (j _).isLt _) (h.2 a)⟩

/-- The place that the stable sort of an index's row puts at the index. -/
def whence (j : (⟨2, ![N, 8]⟩ : Shape).Idx) : (⟨2, ![N, 8]⟩ : Shape).Idx :=
  Shape.Idx.along (s := ⟨2, ![N, 8]⟩) j 1 (sortedFrom (fun a b => FloatOps.cmpfTotal (F := Ideal) (φ := φ) .gt
    (x (Shape.Idx.along (s := ⟨2, ![N, 8]⟩) j 1 a)) (x (Shape.Idx.along (s := ⟨2, ![N, 8]⟩) j 1 b)) == 1#1) (j 1))

/-- The gates of row `t`. -/
abbrev rowOf (t : Fin N) (e : Fin 8) : EReal := x (ix2 t e)

omit x in
/-- The cut keeps row and column. -/
theorem cut_eq (t : Fin N) (i : Fin 2) : cut h (ix2 t i) = (ix2 t ⟨i.val, by omega⟩ : (⟨2, ![N, 8]⟩ : Shape).Idx) := by
  funext b
  match b with
  | 0 => exact Fin.ext (Nat.zero_add _)
  | 1 => exact Fin.ext (Nat.zero_add _)

omit x h in
/-- Moving along a row. -/
theorem along_col (t : Fin N) (k a : Fin 8) :
    Shape.Idx.along (s := ⟨2, ![N, 8]⟩) (ix2 t k) 1 a = (ix2 t a : (⟨2, ![N, 8]⟩ : Shape).Idx) := by
  funext b
  match b with
  | 0 => rfl
  | 1 => rfl

omit h in
/-- The sort of row `t` reads that row. -/
theorem whence_eq (t : Fin N) (i : Fin 2) : whence x (ix2 t ⟨i.val, by omega⟩) = ix2 t (pick (rowOf x t) i) := by
  unfold whence pick
  refine (along_col t _ _).trans (congrArg (ix2 t) ?_)
  refine congrArg (fun B => sortedFrom (n := 8) B _) (funext fun a => funext fun b => ?_)
  exact congrArg₂ (fun p q => FloatOps.cmpfTotal (F := Ideal) (φ := φ) .gt (x p) (x q) == 1#1) (along_col t _ a) (along_col t _ b)

/-- The greatest entries of row `t`. -/
theorem topK_val (t : Fin N) (i : Fin 2) :
    (Host.topK (⟨2, ![N, 2]⟩ : Shape) 1 (FloatOps.cmpfTotal (F := Ideal) (φ := φ) .gt) x h).1 (ix2 t i)
      = x (ix2 t (pick (rowOf x t) i)) := by
  have e : (Host.topK (⟨2, ![N, 2]⟩ : Shape) 1 (FloatOps.cmpfTotal (F := Ideal) (φ := φ) .gt) x h).1 (ix2 t i)
      = x (whence x (cut h (ix2 t i))) := rfl
  rw [e, cut_eq, whence_eq]

/-- Their columns. -/
theorem topK_idx (t : Fin N) (i : Fin 2) :
    (Host.topK (⟨2, ![N, 2]⟩ : Shape) 1 (FloatOps.cmpfTotal (F := Ideal) (φ := φ) .gt) x h).2 (ix2 t i)
      = BitVec.ofNat 32 (pick (rowOf x t) i).val := by
  have e : (Host.topK (⟨2, ![N, 2]⟩ : Shape) 1 (FloatOps.cmpfTotal (F := Ideal) (φ := φ) .gt) x h).2 (ix2 t i)
      = BitVec.ofNat 32 (whence x (cut h (ix2 t i)) 1).val := rfl
  rw [e, cut_eq, whence_eq]
  rfl

end TopK

end Cert.Moe

end
-- ==== Proof.KHost.lean ====
/-
  The kernel's host operations between its exchanges, as functions of what they read, and each at an index.
-/
module

public import proofs.«01_k».proof.Proof.Mix
public import proofs.«01_k».proof.Proof.Gen.KernelIdeal.Skeleton

@[expose] public section

set_option maxRecDepth 16384

noncomputable section

namespace Cert.Moe.Side

open Idealize.ShloMosaic Cert.KernelIdeal
open Facts₀ Facts

/-- The whole router from the two slots. -/
def router (v : FVec Ideal S2x1024x4 .bf16) : FVec Ideal S1024x8 .bf16 :=
  concatenate S1024x8 1 [⟨S1024x4, shapeCast S1024x4 (extractStridedSlice S1x1024x4 ![0, 0, 0] v slices_S2x1024x4_S1x1024x4_0_0_0) shapeCasts_S1x1024x4_S1024x4⟩,
    ⟨S1024x4, shapeCast S1024x4 (extractStridedSlice S1x1024x4 ![1, 0, 0] v slices_S2x1024x4_S1x1024x4_1_0_0) shapeCasts_S1x1024x4_S1024x4⟩]
    concatenates_S1024x4_S1024x4_S1024x8_d1

/-- An expert's half, and its place in the half. -/
def halfOf (e : Fin 8) : Fin 2 := ⟨e.val / 4, by omega⟩
/-- An expert's place in its half. -/
def placeOf (e : Fin 8) : Fin 4 := ⟨e.val % 4, by omega⟩

/-- An expert is put together again from half and place. -/
theorem expert_half (e : Fin 8) : expert (halfOf e) (placeOf e) = e := Fin.ext (show 4 * (e.val / 4) + e.val % 4 = e.val by omega)

/-- A router column is at its place in the slot of its half. -/
theorem router_apply (v : FVec Ideal S2x1024x4 .bf16) (k : Fin 1024) (e : Fin 8) :
    router v (ix2 k e) = v (ix3 (halfOf e) k (placeOf e)) := by
  unfold router
  pointwise
  unfold halfOf placeOf
  by_cases h : e.val < 4
  · rw [dif_pos h]
    exact congrArg₂ (fun a b => v (ix3 a k b)) (Fin.ext (show 0 = e.val / 4 by omega)) (Fin.ext (show e.val = e.val % 4 by omega))
  · rw [dif_neg h]
    exact congrArg₂ (fun a b => v (ix3 a k b)) (Fin.ext (show 1 = e.val / 4 by omega)) (Fin.ext (show e.val - 4 = e.val % 4 by omega))

/-- The gates of a device's tokens. -/
def gates (X : FVec Ideal S512x1024 .bf16) (R : FVec Ideal S1024x8 .bf16) : FVec Ideal S512x8 .bf16 :=
  truncf .bf16 (Host.dotGeneral dot_S512x1024_S1024x8_S512x8_1_0_0_1_n_n (some .fp32) X R : FVec Ideal S512x8 .f32) bitsLt_bf16_f32

/-- A gate of a token. -/
theorem gates_apply (X : FVec Ideal S512x1024 .bf16) (R : FVec Ideal S1024x8 .bf16) (t : Fin 512) (e : Fin 8) :
    gates X R (ix2 t e) = gate (fun k => X (ix2 t k)) (fun k e => R (ix2 k e)) e := by
  unfold gates gate
  pointwise

/-- The exponentials of two gates, less the greater. -/
def expo (v : FVec Ideal S512x2 .bf16) : FVec Ideal S512x2 .bf16 :=
  Host.exp (subf v (broadcastInDim S512x2 ![0, 1] bcast_S512x1_S512x2_0_1 (broadcastInDim S512x1 ![0] bcast_S512_S512x1_0
    (maximumf (broadcastInDim S512 ![] bcast_S_S512 (constant S_ .bf16 0xFF80#16))
      (Host.reduce FloatOps.maximumf v (constant S_ .bf16 0xFF80#16) reducesTo_S512x2_S512_d1 h_S_)))))

/-- The weights of two gates: the sum of the exponentials is taken in the wider format. -/
def weights (v : FVec Ideal S512x2 .bf16) : FVec Ideal S512x2 .f32 :=
  extf .f32 (Host.divf (expo v) (broadcastInDim S512x2 ![0, 1] bcast_S512x1_S512x2_0_1 (truncf .bf16 (broadcastInDim S512x1 ![0] bcast_S512_S512x1_0
    (Host.reduceAdd (extf .f32 (expo v) bitsLt_bf16_f32 : FVec Ideal S512x2 .f32) (constant S_ .f32 0x00000000#32) reducesTo_S512x2_S512_d1 h_S_)) bitsLt_bf16_f32))) bitsLt_bf16_f32

/-- The weights are the softmax of the two gates of a row. -/
theorem weights_apply (v : FVec Ideal S512x2 .bf16) (t : Fin 512) (i : Fin 2) :
    weights v (ix2 t i) = soft (fun j => v (ix2 t j)) i := by
  unfold weights expo soft
  pointwise
  simp only [negInf_narrow, max_start]

/-- A device's first coordinate, as the kernel computes it. -/
def coordWord (c : Dev nD) : IVec S_ 32 :=
  id (Host.remui (Host.divui (constantI S_ 32 (Dev.word c)) (constantI S_ 32 16#32)) (constantI S_ 32 2#32))

/-- That word is the first coordinate of the mesh. -/
theorem coordWord_apply (c : Dev nD) : coordWord c ix0 = BitVec.ofNat 32 (c.val / 16) := by revert c; decide +kernel

/-- The unsigned value of an equality's bit. -/
theorem unsigned_eq (a b : BitVec 32) : FloatOps.uitofp (F := Ideal) .f32 (IntOp.cmpi .eq a b) = if a = b then 1 else 0 := by
  by_cases h : a = b
  · subst h; simp [IntOp.cmpi, FloatOps.uitofp]
  · simp [IntOp.cmpi, beq_false_of_ne h, h, FloatOps.uitofp]

/-- The value of an equality's bit, widened. -/
theorem signed_eq (a b : BitVec 32) : FloatOps.sitofp (F := Ideal) .f32 (BitVec.setWidth 32 (IntOp.cmpi .eq a b)) = if a = b then 1 else 0 := by
  by_cases h : a = b
  · subst h; simp [IntOp.cmpi, FloatOps.sitofp]
  · simp [IntOp.cmpi, beq_false_of_ne h, h, FloatOps.sitofp]

/-- Words of places are equal where the places are. -/
theorem word_eq_iff (a b : Fin 4) : BitVec.ofNat 32 a.val = BitVec.ofNat 32 b.val ↔ a = b := by
  refine ⟨fun h => Fin.ext ?_, fun h => h ▸ rfl⟩
  have e := congrArg BitVec.toNat h
  rwa [BitVec.toNat_ofNat, BitVec.toNat_ofNat, Nat.mod_eq_of_lt (by omega), Nat.mod_eq_of_lt (by omega)] at e

/-- The weights of the pair's tokens at a device's experts. -/
def dense (h : IVec S_ 32) (I : IVec S2x512x2 32) (w : FVec Ideal S2x512x2 .f32) : FVec Ideal S1024x4 .f32 :=
  Host.reduceAdd (mulf
    (broadcastInDim S1024x2x4 ![0, 1, 2] bcast_S1024x2x1_S1024x2x4_0_1_2
      (broadcastInDim S1024x2x1 ![0, 1] bcast_S1024x2_S1024x2x1_0_1 (shapeCast S1024x2 w shapeCasts_S2x512x2_S1024x2)))
    (uitofp .f32 (cmpi .eq
      (broadcastInDim S1024x2x4 ![0, 1, 2] bcast_S1024x2x1_S1024x2x4_0_1_2
        (broadcastInDim S1024x2x1 ![0, 1] bcast_S1024x2_S1024x2x1_0_1 (shapeCast S1024x2 I shapeCasts_S2x512x2_S1024x2)))
      (broadcastInDim S1024x2x4 ![0, 1, 2] bcast_S1x1x4_S1024x2x4_0_1_2 (broadcastInDim S1x1x4 ![2] bcast_S4_S1x1x4_2
        (addi (broadcastInDim S4 ![] bcast_S_S4 (muli h (constantI S_ 32 4#32))) (iotaInDim S4 32 0)))))))
    (constant S_ .f32 0x00000000#32) reducesTo_S1024x2x4_S1024x4_d1 h_S_

/-- A token's weight at an expert: the sum of the weights of the choices that name the expert. -/
theorem dense_apply (h : IVec S_ 32) (I : IVec S2x512x2 32) (w : FVec Ideal S2x512x2 .f32) (t : Fin 1024) (l : Fin 4) :
    dense h I w (ix2 t l) = ∑ i : Fin 2, w (ix3 ⟨t.val / 512, by omega⟩ ⟨t.val % 512, by omega⟩ i)
      * (if I (ix3 ⟨t.val / 512, by omega⟩ ⟨t.val % 512, by omega⟩ i) = h ix0 * 4#32 + BitVec.ofNat 32 l.val then 1 else 0) := by
  unfold dense
  pointwise
  simp only [unsigned_eq]
  rfl

/-! ## The expert kernel's payload -/

/-- One expert's weighted output: the weights' column is picked by a sum against an indicator. -/
theorem pay1_apply (i : grid2.Coords) (x : Vec Ideal S1024x1024 .bf16) (u : Vec Ideal S1x1024x2048 .bf16) (d : Vec Ideal S1x2048x1024 .bf16)
    (g : Vec Ideal S1024x4 .f32) (t j : Fin 1024) (l : Fin 4) (hl : (i 0).val = l.val) :
    Gen.k2_pay1 (F := Ideal) i x u d g (ix2 t j)
      = ffn (fun k => x (ix2 t k)) (fun k f => u (ix3 0 k f)) (fun f => d (ix3 0 f j)) * g (ix2 t l) := by
  unfold Gen.k2_pay1 ffn
  pointwise
  simp only [signed_eq, hl, word_eq_iff, mul_ite, mul_one, mul_zero, Finset.sum_ite_eq', Finset.mem_univ, if_true]

/-- The same added to the sum so far. -/
theorem pay2_apply (i : grid2.Coords) (x : Vec Ideal S1024x1024 .bf16) (u : Vec Ideal S1x1024x2048 .bf16) (d : Vec Ideal S1x2048x1024 .bf16)
    (g : Vec Ideal S1024x4 .f32) (a : Vec Ideal S1024x1024 .f32) (t j : Fin 1024) :
    Gen.k2_pay2 (F := Ideal) i x u d g a (ix2 t j) = a (ix2 t j) + Gen.k2_pay1 (F := Ideal) i x u d g (ix2 t j) := by
  unfold Gen.k2_pay2
  pointwise

/-- The combination adds the two halves. -/
theorem pay3_apply (a : Vec Ideal S1x512x1024 .bf16) (b : Vec Ideal S512x1024 .bf16) (r : Fin 512) (j : Fin 1024) :
    Gen.k3_pay1 (F := Ideal) a b (ix2 r j) = a (ix3 0 r j) + b (ix2 r j) := by
  unfold Gen.k3_pay1
  pointwise

end Cert.Moe.Side

end
-- ==== Proof.KReads.lean ====
/-
  What the kernel's buffers hold between its exchanges, as the functions of the host operations.
-/
module

public import proofs.«01_k».proof.Proof.KHost
public import proofs.«01_k».proof.Proof.Chain
public import Idealize.ShloMosaic.Lib.StableHlo.RunRead
public import Idealize.ShloMosaic.Lib.Pointwise.IndexBridge

@[expose] public section

noncomputable section

namespace Cert.Moe

open Cert.KernelIdeal Cert.KernelIdeal.Gen
open Idealize.ShloMosaic Idealize.ShloMosaic.TcCoe
open Idealize.SL Idealize.SL.Sem

variable (m : (ℓ : Loc nD τ sig) → Buf (Elt Ideal) ℓ)

/-- A device's tokens. -/
abbrev argX (c : Dev nD) : FVec Ideal S512x1024 .bf16 := m (c, Proc.devRef .tc main_arg0)
/-- Its router columns. -/
abbrev argR (c : Dev nD) : FVec Ideal S1024x4 .bf16 := m (c, Proc.devRef .tc main_arg1)
/-- Its experts' first matrices. -/
abbrev argU (c : Dev nD) : FVec Ideal S4x1024x2048 .bf16 := m (c, Proc.devRef .tc main_arg2)
/-- Its experts' second matrices. -/
abbrev argD (c : Dev nD) : FVec Ideal S4x2048x1024 .bf16 := m (c, Proc.devRef .tc main_arg3)

/-- An argument is untouched until the second exchange. -/
theorem W2_arg (c : Dev nD) (r : Ref sig .tc) (h0 : r ∉ hostOps0_W) (h : r ≠ main_v5) : W2 m c r = m (c, Proc.devRef .tc r) :=
  (W2_of m c (Proc.devRef .tc r) (StableHlo.devRef_ne_of_ne h)).trans (StableHlo.after_of_writes_sub (hostOps0 c) _ (hostOps0_writes c) h0)
/-- An argument is untouched until the expert kernel. -/
theorem W4_arg (c : Dev nD) (r : Ref sig .tc) (h0 : r ∉ hostOps0_W) (h : r ≠ main_v5) (h1 : r ∉ hostOps1_W)
    (hx : r ≠ main_v27_0) (hi : r ≠ main_v27_1) (hw : r ≠ main_v27_2) : W4 m c r = m (c, Proc.devRef .tc r) :=
  (W4_of m c (Proc.devRef .tc r) (StableHlo.devRef_ne_of_ne hx) (StableHlo.devRef_ne_of_ne hi) (StableHlo.devRef_ne_of_ne hw)).trans
    ((StableHlo.after_of_writes_sub hostOps1 _ hostOps1_writes h1).trans (W2_arg m c r h0 h))

/-- A device brings its router columns. -/
theorem vr_eq (c : Dev nD) : vr m c = argR m c := StableHlo.after_of_writes_sub (hostOps0 c) _ (hostOps0_writes c) (by decide)

/-- The gates of a device's tokens. -/
def gatesOf (c : Dev nD) : FVec Ideal S512x8 .bf16 := Side.gates (argX m c) (Side.router (stk (vr m) c))

/-- The router as the gates' product reads it. -/
theorem router_read (c : Dev nD) :
    concatenate S1024x8 1 [⟨S1024x4, StableHlo.upto hostOps1 (W2 m c) 4 (Proc.tc.devRef main_v7)⟩,
      ⟨S1024x4, StableHlo.upto hostOps1 (W2 m c) 4 (Proc.tc.devRef main_v9)⟩] Facts₀.concatenates_S1024x4_S1024x4_S1024x8_d1
      = Side.router (stk (vr m) c) := by
  have h7 : (StableHlo.upto hostOps1 (W2 m c) 4 (Proc.tc.devRef main_v7) : FVec Ideal S1024x4 .bf16)
      = shapeCast S1024x4 (extractStridedSlice S1x1024x4 ![0, 0, 0] (stk (vr m) c : FVec Ideal S2x1024x4 .bf16) Facts₀.slices_S2x1024x4_S1x1024x4_0_0_0) Facts₀.shapeCasts_S1x1024x4_S1024x4 := by
    rw [← W2_v5]
    after_reads_simp
    rfl
  have h9 : (StableHlo.upto hostOps1 (W2 m c) 4 (Proc.tc.devRef main_v9) : FVec Ideal S1024x4 .bf16)
      = shapeCast S1024x4 (extractStridedSlice S1x1024x4 ![1, 0, 0] (stk (vr m) c : FVec Ideal S2x1024x4 .bf16) Facts₀.slices_S2x1024x4_S1x1024x4_1_0_0) Facts₀.shapeCasts_S1x1024x4_S1024x4 := by
    rw [← W2_v5]
    after_reads_simp
    rfl
  exact congrArg₂ (fun a b : FVec Ideal S1024x4 .bf16 => concatenate S1024x8 1 [⟨S1024x4, a⟩, ⟨S1024x4, b⟩] Facts₀.concatenates_S1024x4_S1024x4_S1024x8_d1) h7 h9

/-- A device brings its tokens. -/
theorem vx_eq (c : Dev nD) : vx m c = argX m c :=
  (StableHlo.after_of_writes_sub hostOps1 _ hostOps1_writes (by decide)).trans (W2_arg m c main_arg0 (by decide) (by decide))

/-- A device brings the two columns with the greatest gates. -/
theorem vi_eq (c : Dev nD) : vi m c = (Host.topK S512x2 1 (FloatOps.cmpfTotal .gt) (gatesOf m c) Facts₀.sliceFits_S512x8_S512x2).2 := by
  unfold vi W3 gatesOf
  after_reads_simp
  rw [W2_arg m c main_arg0 (by decide) (by decide)]
  exact congrArg (fun R => (Host.topK S512x2 1 (FloatOps.cmpfTotal .gt) (Side.gates (argX m c) R) Facts₀.sliceFits_S512x8_S512x2).2) (router_read m c)

/-- A device brings the weights of the two greatest gates. -/
theorem vw_eq (c : Dev nD) : vw m c = Side.weights (Host.topK S512x2 1 (FloatOps.cmpfTotal .gt) (gatesOf m c) Facts₀.sliceFits_S512x8_S512x2).1 := by
  unfold vw W3 gatesOf
  after_reads_simp
  rw [W2_arg m c main_arg0 (by decide) (by decide)]
  exact congrArg (fun R => Side.weights (Host.topK S512x2 1 (FloatOps.cmpfTotal .gt) (Side.gates (argX m c) R) Facts₀.sliceFits_S512x8_S512x2).1) (router_read m c)

/-- A device's first coordinate, before the expert kernel. -/
theorem W4_coord (c : Dev nD) : W4 m c main_v4 = Side.coordWord c := by
  rw [W4_of m c (Proc.devRef .tc main_v4) (by decide) (by decide) (by decide),
    show W3 m c (Proc.devRef .tc main_v4) = W2 m c (Proc.devRef .tc main_v4) from StableHlo.after_of_writes_sub hostOps1 _ hostOps1_writes (by decide),
    W2_of m c (Proc.devRef .tc main_v4) (by decide)]
  unfold W1
  after_reads_simp
  rfl

/-- The dense weights the expert kernel reads. -/
theorem W5_g (c : Dev nD) : W5 m c main_v43 = Side.dense (Side.coordWord c) (stk (vi m) c) (stk (vw m) c) := by
  rw [← W4_i, ← W4_w, ← W4_coord]
  unfold W5
  after_reads_simp
  rfl

/-- The tokens the expert kernel reads. -/
theorem W5_x (c : Dev nD) : W5 m c main_v44 = shapeCast S1024x1024 (stk (vx m) c : FVec Ideal S2x512x1024 .bf16) Facts₀.shapeCasts_S2x512x1024_S1024x1024 := by
  rw [← W4_x]
  unfold W5
  after_reads_simp
  rfl

/-- The first matrices the expert kernel reads. -/
theorem W5_u (c : Dev nD) : W5 m c main_arg2 = argU m c :=
  (StableHlo.after_of_writes_sub hostOps2 _ hostOps2_writes (by decide)).trans
    (W4_arg m c main_arg2 (by decide) (by decide) (by decide) (by decide) (by decide) (by decide))

/-- The second matrices the expert kernel reads. -/
theorem W5_d (c : Dev nD) : W5 m c main_arg3 = argD m c :=
  (StableHlo.after_of_writes_sub hostOps2 _ hostOps2_writes (by decide)).trans
    (W4_arg m c main_arg3 (by decide) (by decide) (by decide) (by decide) (by decide) (by decide))

/-- A device brings its partial sums, cut in two halves. -/
theorem vp_eq (c : Dev nD) : vp m c = shapeCast S2x512x1024 (accLast m c : FVec Ideal S1024x1024 .bf16) Facts₀.shapeCasts_S1024x1024_S2x512x1024 := by
  rw [← W6_v45]
  unfold vp W7
  after_reads_simp
  rfl

end Cert.Moe

end
-- ==== Proof.KValue.lean ====
/-
  What the kernel leaves on a device, read at one token and one column: the layer's output of the token.
-/
module

public import proofs.«01_k».proof.Proof.KReads

@[expose] public section

noncomputable section

namespace Cert.Moe

open Cert.KernelIdeal Cert.KernelIdeal.Gen
open Idealize.ShloMosaic Idealize.ShloMosaic.TcCoe
open Idealize.SL Idealize.SL.Sem

variable (m : (ℓ : Loc nD τ sig) → Buf (Elt Ideal) ℓ)

/-! ## The pair's arrays, put together -/

/-- A token's half. -/
def topOf (t : Fin 1024) : Fin 2 := ⟨t.val / 512, by omega⟩
/-- A token's place in its half. -/
def offOf (t : Fin 1024) : Fin 512 := ⟨t.val % 512, by omega⟩

/-- Token `r` of half `h`. -/
def tok (h : Fin 2) (r : Fin 512) : Fin 1024 := ⟨512 * h.val + r.val, by omega⟩

/-- A token's half. -/
theorem topOf_tok (h : Fin 2) (r : Fin 512) : topOf (tok h r) = h := Fin.ext (show (512 * h.val + r.val) / 512 = h.val by omega)
/-- A token's place. -/
theorem offOf_tok (h : Fin 2) (r : Fin 512) : offOf (tok h r) = r := Fin.ext (show (512 * h.val + r.val) % 512 = r.val by omega)

/-- All tokens, from the pair. -/
def pairX (c : Dev nD) (t k : Fin 1024) : EReal := argX m (row (topOf t) c) (ix2 (offOf t) k)
/-- The whole router, from the pair. -/
def pairR (c : Dev nD) (k : Fin 1024) (e : Fin 8) : EReal := argR m (row (Side.halfOf e) c) (ix2 k (Side.placeOf e))

/-- Going twice to a device of the pair is going once. -/
theorem row_row (x y : Fin 2) (c : Dev nD) : row x (row y c) = row x c := by revert x y c; decide

/-- The two slots at an index. -/
theorem stk_apply {n k : ℕ} {α : Type} (g : Dev nD → (Mat n k).Idx → α) (c : Dev nD) (x : Fin 2) (a : Fin n) (b : Fin k) :
    stk g c (ix3 x a b) = g (row x c) (ix2 a b) := by
  rw [ix2_eq_valueIdx]; rfl

/-- The gates of a token of the pair, on the device that has the token. -/
theorem gatesOf_row (c : Dev nD) (t : Fin 1024) :
    rowOf (gatesOf m (row (topOf t) c)) (offOf t) = gate (pairX m c t) (pairR m c) := by
  funext e
  refine (Side.gates_apply _ _ _ _).trans ?_
  congr 1
  funext k e
  rw [Side.router_apply, stk_apply, vr_eq, row_row]
  rfl

/-- The choices of a token of the pair. -/
theorem choice (c : Dev nD) (t : Fin 1024) (i : Fin 2) :
    stk (vi m) c (ix3 (topOf t) (offOf t) i) = BitVec.ofNat 32 (pick (gate (pairX m c t) (pairR m c)) i).val := by
  rw [stk_apply, vi_eq, ← gatesOf_row]
  exact topK_idx _ _ _ _
/-- The weight of a choice of a token of the pair. -/
theorem weight (c : Dev nD) (t : Fin 1024) (i : Fin 2) :
    stk (vw m) c (ix3 (topOf t) (offOf t) i) = wgt (gate (pairX m c t) (pairR m c)) i := by
  rw [stk_apply, vw_eq, ← gatesOf_row]
  refine (Side.weights_apply _ _ _).trans ?_
  unfold wgt
  congr 1
  funext j
  exact topK_val _ _ _ _

/-- The word of an expert. -/
theorem expert_word (h : Fin 2) (l : Fin 4) : BitVec.ofNat 32 h.val * 4#32 + BitVec.ofNat 32 l.val = BitVec.ofNat 32 (expert h l).val := by
  revert h l; decide

/-- Words of experts are equal where the experts are. -/
theorem expert_word_iff (a b : Fin 8) : BitVec.ofNat 32 a.val = BitVec.ofNat 32 b.val ↔ a = b := by revert a b; decide

/-- The dense weight of a token at a device's expert. -/
theorem dense_at (c : Dev nD) (t : Fin 1024) (l : Fin 4) :
    (W5 m c main_v43 : FVec Ideal S1024x4 .f32) (ix2 t l)
      = ∑ i, wgt (gate (pairX m c t) (pairR m c)) i * (if pick (gate (pairX m c t) (pairR m c)) i = expert (xc c) l then 1 else 0) := by
  rw [W5_g]
  refine (Side.dense_apply _ _ _ t l).trans (Finset.sum_congr rfl fun i _ => ?_)
  rw [Side.coordWord_apply]
  refine congrArg₂ (· * ·) (weight m c t i) ?_
  refine if_congr ?_ rfl rfl
  rw [← expert_word_iff, ← choice, ← expert_word]
  rfl

/-! ## The expert kernel -/

/-- A grid point's number is its expert's place. -/
theorem coord_val : ∀ t : Fin cfg2.N, (grid2.coords t 0).val = t.val := by decide

/-- A grid point's block of either weight array is its expert's. -/
theorem block1_val : ∀ t : Fin cfg2.N, cc2_transform_1 (grid2.coords t) 0 = t.val := by decide
/-- The same of the second matrices. -/
theorem block2_val : ∀ t : Fin cfg2.N, cc2_transform_2 (grid2.coords t) 0 = t.val := by decide

/-- A grid point as a place. -/
def placeAt (t : Fin cfg2.N) : Fin 4 := ⟨t.val, lt_of_lt_of_eq t.isLt N_2⟩

/-- Every grid point reads all tokens of the pair. -/
theorem xIn_apply (c : Dev nD) (t : Fin cfg2.N) (a k : Fin 1024) : (xIn m c t : FVec Ideal S1024x1024 .bf16) (ix2 a k) = pairX m c a k := by
  have e : (xIn m c t : FVec Ideal S1024x1024 .bf16) (ix2 a k) = (W5 m c main_v44 : FVec Ideal S1024x1024 .bf16) (ix2 a k) :=
    congrArg (W5 m c main_v44) (funext fun b => Fin.ext (by
      match b with
      | 0 => exact (show 0 * _ + 1 * a.val = a.val by omega)
      | 1 => exact (show 0 * _ + 1 * k.val = k.val by omega)))
  rw [e, W5_x]
  have e' : ∀ v : FVec Ideal S2x512x1024 .bf16, shapeCast S1024x1024 v Facts₀.shapeCasts_S2x512x1024_S1024x1024 (ix2 a k) = v (ix3 (topOf a) (offOf a) k) := fun v => by
    unfold topOf offOf
    pointwise
  rw [e', stk_apply, vx_eq]
  rfl

/-- Every grid point reads all dense weights. -/
theorem gIn_apply (c : Dev nD) (t : Fin cfg2.N) (a : Fin 1024) (l : Fin 4) :
    (gIn m c t : FVec Ideal S1024x4 .f32) (ix2 a l) = (W5 m c main_v43 : FVec Ideal S1024x4 .f32) (ix2 a l) :=
  congrArg (W5 m c main_v43) (funext fun b => Fin.ext (by
    match b with
    | 0 => exact (show 0 * _ + 1 * a.val = a.val by omega)
    | 1 => exact (show 0 * _ + 1 * l.val = l.val by omega)))

/-- A grid point reads its expert's first matrix. -/
theorem uIn_apply (c : Dev nD) (t : Fin cfg2.N) (k : Fin 1024) (f : Fin 2048) :
    (uIn m c t : FVec Ideal S1x1024x2048 .bf16) (ix3 0 k f) = argU m c (ix3 (placeAt t) k f) := by
  have e : (uIn m c t : FVec Ideal S1x1024x2048 .bf16) (ix3 0 k f) = (W5 m c main_arg2 : FVec Ideal S4x1024x2048 .bf16) (ix3 (placeAt t) k f) :=
    congrArg (W5 m c main_arg2) (funext fun b => Fin.ext (by
      match b with
      | 0 => exact (show cc2_transform_1 (grid2.coords t) 0 * 1 + 1 * 0 = t.val by rw [block1_val]; omega)
      | 1 => exact (show 0 * _ + 1 * k.val = k.val by omega)
      | 2 => exact (show 0 * _ + 1 * f.val = f.val by omega)))
  rw [e, W5_u]

/-- A grid point reads its expert's second matrix. -/
theorem dIn_apply (c : Dev nD) (t : Fin cfg2.N) (f : Fin 2048) (k : Fin 1024) :
    (dIn m c t : FVec Ideal S1x2048x1024 .bf16) (ix3 0 f k) = argD m c (ix3 (placeAt t) f k) := by
  have e : (dIn m c t : FVec Ideal S1x2048x1024 .bf16) (ix3 0 f k) = (W5 m c main_arg3 : FVec Ideal S4x2048x1024 .bf16) (ix3 (placeAt t) f k) :=
    congrArg (W5 m c main_arg3) (funext fun b => Fin.ext (by
      match b with
      | 0 => exact (show cc2_transform_2 (grid2.coords t) 0 * 1 + 1 * 0 = t.val by rw [block2_val]; omega)
      | 1 => exact (show 0 * _ + 1 * f.val = f.val by omega)
      | 2 => exact (show 0 * _ + 1 * k.val = k.val by omega)))
  rw [e, W5_d]

/-- What a device's expert in place `l` adds to a token at a column. -/
def adds (c : Dev nD) (t d : Fin 1024) (l : Fin 4) : EReal :=
  share (gate (pairX m c t) (pairR m c)) (expert (xc c) l)
    (ffn (pairX m c t) (fun k f => argU m c (ix3 l k f)) (fun f => argD m c (ix3 l f d)))

section

attribute [local irreducible] xIn uIn dIn gIn W5 k2_pay1 k2_pay2

/-- One grid point computes its expert's share. -/
theorem pay_at (c : Dev nD) (p : Fin cfg2.N) (t d : Fin 1024) :
    k2_pay1 (F := Ideal) (grid2.coords p) (xIn m c p) (uIn m c p) (dIn m c p) (gIn m c p) (ix2 t d) = adds m c t d (placeAt p) := by
  refine (Side.pay1_apply _ _ _ _ _ t d (placeAt p) (coord_val p)).trans ?_
  have hx : (fun k => (xIn m c p : FVec Ideal S1024x1024 .bf16) (ix2 t k)) = pairX m c t := funext fun k => xIn_apply m c p t k
  have hu : (fun k f => (uIn m c p : FVec Ideal S1x1024x2048 .bf16) (ix3 0 k f)) = fun k f => argU m c (ix3 (placeAt p) k f) :=
    funext fun k => funext fun f => uIn_apply m c p k f
  have hd : (fun f => (dIn m c p : FVec Ideal S1x2048x1024 .bf16) (ix3 0 f d)) = fun f => argD m c (ix3 (placeAt p) f d) :=
    funext fun f => dIn_apply m c p f d
  unfold adds
  rw [← share_eq, ← dense_at, ← hx, ← hu, ← hd]
  exact congrArg (_ * ·) (gIn_apply m c p t (placeAt p))

/-- One more grid point. -/
theorem acc_next (c : Dev nD) (n : ℕ) (h : n + 1 < cfg2.N) (t d : Fin 1024) :
    (acc m c (n + 1) h : FVec Ideal S1024x1024 .f32) (ix2 t d)
      = (acc m c n (Nat.lt_of_succ_lt h) : FVec Ideal S1024x1024 .f32) (ix2 t d) + adds m c t d (placeAt ⟨n + 1, h⟩) :=
  (Side.pay2_apply _ _ _ _ _ _ t d).trans (congrArg (_ + ·) (pay_at m c ⟨n + 1, h⟩ t d))

/-- The first grid point. -/
theorem acc_first (c : Dev nD) (h : 0 < cfg2.N) (t d : Fin 1024) :
    (acc m c 0 h : FVec Ideal S1024x1024 .f32) (ix2 t d) = adds m c t d (placeAt ⟨0, h⟩) := pay_at m c ⟨0, h⟩ t d

/-- The sum over a device's four experts. -/
theorem accLast_apply (c : Dev nD) (t d : Fin 1024) : (accLast m c : FVec Ideal S1024x1024 .f32) (ix2 t d) = ∑ l, adds m c t d l := by
  have h3 : 3 < cfg2.N := t2_3.isLt
  refine (acc_next m c 2 h3 t d).trans ?_
  rw [acc_next m c 1, acc_next m c 0, acc_first, Fin.sum_univ_four]
  rfl

end

/-! ## The combination -/

/-- The partial sum a device brings, at a half, a token of it and a column. -/
theorem vp_apply (c : Dev nD) (h : Fin 2) (r : Fin 512) (d : Fin 1024) :
    (vp m c : FVec Ideal S2x512x1024 .bf16) (ix3 h r d) = ∑ l, adds m c (tok h r) d l := by
  rw [vp_eq, ← accLast_apply]
  have e' : ∀ v : FVec Ideal S1024x1024 .bf16, shapeCast S2x512x1024 v Facts₀.shapeCasts_S1024x1024_S2x512x1024 (ix3 h r d) = v (ix2 (tok h r) d) := fun v => by
    pointwise
    exact congrArg (fun a => v (ix2 a d)) (Fin.ext (show h.val * 512 + r.val = 512 * h.val + r.val by omega))
  exact e' _

/-- What a device of the pair leaves at a token of its half and a column: both devices' experts' shares. -/
theorem comb_apply (c : Dev nD) (r : Fin 512) (d : Fin 1024) :
    (comb (vals m) c : FVec Ideal S512x1024 .f32) (ix2 r d)
      = (∑ l, adds m c (tok (xc c) r) d l) + ∑ l, adds m (pr c) (tok (xc c) r) d l := by
  unfold comb
  rw [Side.pay3_apply, ← vp_apply, ← vp_apply, ix3_eq_valueIdx, ix3_eq_valueIdx]
  rfl

end Cert.Moe

end
-- ==== Proof.RefValue.lean ====
/-
  What the reference computes, read at one token and one column.

  Its composed term is cut into stages (gates, choices, weights, experts, the masked sum), each is read at an index, and
  the result is `moe` of the token's row.
-/
module

public import proofs.«01_k».proof.Proof.Mix
public import proofs.«01_k».proof.Proof.Gen.ReferenceIdeal.Run

@[expose] public section

set_option maxRecDepth 16384

noncomputable section

namespace Cert.Moe.Ref

open Idealize.ShloMosaic Cert.ReferenceIdeal
open Facts₀ Facts

/-- The gates of all tokens. -/
def gates (X : FVec Ideal S1024x1024 .f32) (R : FVec Ideal S1024x8 .f32) : FVec Ideal S1024x8 .f32 :=
  Host.dotGeneral dot_S1024x1024_S1024x8_S1024x8_1_0_0_1_n_n none X R

/-- A gate of a token. -/
theorem gates_apply (X : FVec Ideal S1024x1024 .f32) (R : FVec Ideal S1024x8 .f32) (t : Fin 1024) (e : Fin 8) :
    gates X R (ix2 t e) = gate (fun k => X (ix2 t k)) (fun k e => R (ix2 k e)) e := by
  unfold gates gate
  pointwise

/-- The exponentials of two gates, less the greater. -/
def expo (v : FVec Ideal S1024x2 .f32) : FVec Ideal S1024x2 .f32 :=
  Host.exp (subf v (broadcastInDim S1024x2 ![0, 1] bcast_S1024x1_S1024x2_0_1 (broadcastInDim S1024x1 ![0] bcast_S1024_S1024x1_0
    (Host.reduce FloatOps.maximumf v (constant S_ .f32 0xFF800000#32) reducesTo_S1024x2_S1024_d1 h_S_))))

/-- The weights of two gates. -/
def weights (v : FVec Ideal S1024x2 .f32) : FVec Ideal S1024x2 .f32 :=
  Host.divf (expo v) (broadcastInDim S1024x2 ![0, 1] bcast_S1024x1_S1024x2_0_1 (broadcastInDim S1024x1 ![0] bcast_S1024_S1024x1_0
    (Host.reduceAdd (expo v) (constant S_ .f32 0x00000000#32) reducesTo_S1024x2_S1024_d1 h_S_)))

/-- The weights are the softmax of the two gates of a row. -/
theorem weights_apply (v : FVec Ideal S1024x2 .f32) (t : Fin 1024) (i : Fin 2) :
    weights v (ix2 t i) = soft (fun j => v (ix2 t j)) i := by
  unfold weights expo soft
  pointwise

/-- Every expert's output of every token. -/
def outs (X : FVec Ideal S1024x1024 .f32) (U : FVec Ideal S8x1024x2048 .f32) (D : FVec Ideal S8x2048x1024 .f32) :
    FVec Ideal S8x1024x1024 .f32 :=
  Host.dotGeneral dot_S8x1024x2048_S8x2048x1024_S8x1024x1024_2_1_1_2_0_0 none
    (maximumf (transpose S8x1024x2048 [0, 2, 1] (Host.dotGeneral dot_S8x1024x2048_S1024x1024_S8x2048x1024_1_1_02_0_n_n none U X)
      transposes_S8x2048x1024_S8x1024x2048_0_2_1) (broadcastInDim S8x1024x2048 ![] bcast_S_S8x1024x2048 (constant S_ .f32 0x00000000#32))) D

/-- An expert's output of a token at a column. -/
theorem outs_apply (X : FVec Ideal S1024x1024 .f32) (U : FVec Ideal S8x1024x2048 .f32) (D : FVec Ideal S8x2048x1024 .f32)
    (e : Fin 8) (t d : Fin 1024) :
    outs X U D (ix3 e t d) = ffn (fun k => X (ix2 t k)) (fun k f => U (ix3 e k f)) (fun f => D (ix3 e f d)) := by
  unfold outs ffn
  pointwise
  simp only [mul_comm]

/-- The masked sum over choices and experts. -/
def total (I : IVec S1024x2 32) (w : FVec Ideal S1024x2 .f32) (Y : FVec Ideal S8x1024x1024 .f32) : FVec Ideal S1024x1024 .f32 :=
  Host.reduceAdd (select (broadcastInDim S2x8x1024x1024 ![0, 1, 2, 3] bcast_S2x8x1024x1_S2x8x1024x1024_0_1_2_3
      (broadcastInDim S2x8x1024x1 ![0, 1, 2] bcast_S2x8x1024_S2x8x1024x1_0_1_2 (cmpi .eq
        (broadcastInDim S2x8x1024 ![0, 1, 2] bcast_S2x1x1024_S2x8x1024_0_1_2 (broadcastInDim S2x1x1024 ![0, 2] bcast_S2x1024_S2x1x1024_0_2
          (transpose S2x1024 [1, 0] I transposes_S1024x2_S2x1024_1_0)))
        (broadcastInDim S2x8x1024 ![0, 1, 2] bcast_S1x8x1_S2x8x1024_0_1_2 (broadcastInDim S1x8x1 ![1] bcast_S8_S1x8x1_1 (iotaInDim S8 32 0))))))
    (mulf (broadcastInDim S2x8x1024x1024 ![0, 1, 2, 3] bcast_S1x8x1024x1024_S2x8x1024x1024_0_1_2_3
        (broadcastInDim S1x8x1024x1024 ![1, 2, 3] bcast_S8x1024x1024_S1x8x1024x1024_1_2_3 Y))
      (broadcastInDim S2x8x1024x1024 ![0, 1, 2, 3] bcast_S2x1x1024x1_S2x8x1024x1024_0_1_2_3
        (broadcastInDim S2x1x1024x1 ![0, 2] bcast_S2x1024_S2x1x1024x1_0_2 (transpose S2x1024 [1, 0] w transposes_S1024x2_S2x1024_1_0))))
    (broadcastInDim S2x8x1024x1024 ![] bcast_S_S2x8x1024x1024 (id (constant S_ .f32 0x00000000#32))))
    (constant S_ .f32 0x00000000#32) reducesTo_S2x8x1024x1024_S1024x1024_d0_1 h_S_

/-- An index of the wide array drops to `(t, d)` where it is some `(i, e, t, d)`. -/
theorem drop_iff (h : S2x8x1024x1024.ReducesTo [0, 1] S1024x1024) (t d : Fin 1024) (i : S2x8x1024x1024.Idx) :
    h.drop i = ix2 t d ↔ ∃ p : Fin 2 × Fin 8, (ix4 p.1 p.2 t d : S2x8x1024x1024.Idx) = i := by
  constructor
  · intro e
    refine ⟨(i 0, i 1), funext fun a => Fin.ext ?_⟩
    match a with
    | 0 => rfl
    | 1 => rfl
    | 2 => exact (congrArg Fin.val (congrFun e 0)).symm
    | 3 => exact (congrArg Fin.val (congrFun e 1)).symm
  · rintro ⟨p, rfl⟩
    funext b
    match b with
    | 0 => rfl
    | 1 => rfl

/-- The sum over choices and experts of an array. -/
theorem sum_first_two (h : S2x8x1024x1024.ReducesTo [0, 1] S1024x1024) (v : S2x8x1024x1024.Idx → EReal) (t d : Fin 1024) :
    Ideal.hostReduceAdd h v 0 (ix2 t d) = ∑ i : Fin 2, ∑ e : Fin 8, v (ix4 i e t d) := by
  unfold Ideal.hostReduceAdd
  rw [zero_add, Finset.sum_filter_eq_sum_of_fiber _ (fun p : Fin 2 × Fin 8 => (ix4 p.1 p.2 t d : S2x8x1024x1024.Idx))
    (fun p q e => Prod.ext (congrFun e 0) (congrFun e 1)) (drop_iff h t d) v, Fintype.sum_prod_type]

/-- The masked sum at a token and a column: over choices and experts, the weighted output where the choice is the expert. -/
theorem total_apply (I : IVec S1024x2 32) (w : FVec Ideal S1024x2 .f32) (Y : FVec Ideal S8x1024x1024 .f32) (t d : Fin 1024) :
    total I w Y (ix2 t d) = ∑ i : Fin 2, ∑ e : Fin 8, if I (ix2 t i) = BitVec.ofNat 32 e.val then Y (ix3 e t d) * w (ix2 t i) else 0 := by
  unfold total
  pointwise
  rw [sum_first_two]
  pointwise
  refine Finset.sum_congr rfl fun i _ => Finset.sum_congr rfl fun e _ => ?_
  rw [show id (constant (F := Ideal) S_ .f32 0x00000000#32) ix0 = 0 from Ideal.ofBits_zero .f32]
  by_cases h : I (ix2 t i) = BitVec.ofNat 32 e.val
  · simp [Scalar.select, IntOp.cmpi, h]
  · simp [Scalar.select, IntOp.cmpi, beq_false_of_ne h, h]

/-- The reference's result. -/
def out (X : FVec Ideal S1024x1024 .f32) (R : FVec Ideal S1024x8 .f32) (U : FVec Ideal S8x1024x2048 .f32) (D : FVec Ideal S8x2048x1024 .f32) :
    FVec Ideal S1024x1024 .f32 :=
  total (Host.topK S1024x2 1 (FloatOps.cmpfTotal .gt) (gates X R) sliceFits_S1024x8_S1024x2).2
    (weights (Host.topK S1024x2 1 (FloatOps.cmpfTotal .gt) (gates X R) sliceFits_S1024x8_S1024x2).1) (outs X U D)

/-- Words of experts are equal where the experts are. -/
theorem word_eq_iff (a b : Fin 8) : BitVec.ofNat 32 a.val = BitVec.ofNat 32 b.val ↔ a = b := by
  refine ⟨fun h => Fin.ext ?_, fun h => h ▸ rfl⟩
  have e := congrArg BitVec.toNat h
  rwa [BitVec.toNat_ofNat, BitVec.toNat_ofNat, Nat.mod_eq_of_lt (by omega), Nat.mod_eq_of_lt (by omega)] at e

/-- The reference's result at token `t` and column `d` is the layer's output of the token. -/
theorem out_apply (X : FVec Ideal S1024x1024 .f32) (R : FVec Ideal S1024x8 .f32) (U : FVec Ideal S8x1024x2048 .f32)
    (D : FVec Ideal S8x2048x1024 .f32) (t d : Fin 1024) :
    out X R U D (ix2 t d) = moe (fun k => X (ix2 t k)) (fun k e => R (ix2 k e)) (fun e k f => U (ix3 e k f)) (fun e f => D (ix3 e f d)) := by
  unfold out moe share
  rw [total_apply, Finset.sum_comm]
  have hg : rowOf (gates X R) t = gate (fun k => X (ix2 t k)) (fun k e => R (ix2 k e)) := funext fun e => gates_apply X R t e
  refine Finset.sum_congr rfl fun e _ => Finset.sum_congr rfl fun i _ => ?_
  rw [topK_idx, weights_apply, outs_apply, hg]
  simp only [word_eq_iff]
  congr 2
  unfold wgt
  congr 1
  funext j
  rw [topK_val, gates_apply, hg]

end Cert.Moe.Ref

end
-- ==== Proof.Value.lean ====
/-
  The kernel's result is the reference's: each device ends with its half of the tokens' rows of the layer's output.
-/
module

public import proofs.«01_k».proof.Defs
public import proofs.«01_k».proof.Proof.KValue
public import proofs.«01_k».proof.Proof.RefValue
public import proofs.«01_k».proof.Proof.Run

@[expose] public section

noncomputable section

namespace Cert.Moe

open Idealize.ShloMosaic Idealize.SL.Sem
open Cert.KernelIdeal (nD τ sig S512x1024 S1024x4 S4x1024x2048 S4x2048x1024)

/-! ## The arrays of the whole mesh -/

/-- A device's block along the first axis of the mesh is that of its first coordinate. -/
theorem lin_x (c : Dev nD) : Layout.meshLin [2, 4, 4] c.val [0] = (xc c).val := by revert c; decide

/-- The first coordinate of the pair's device at a coordinate. -/
theorem xc_row (x : Fin 2) (c : Dev nD) : xc (row x c) = x := by revert x c; decide

section

variable (X : FVec Ideal (⟨2, ![1024, 1024]⟩ : Shape) .f32) (R : FVec Ideal (⟨2, ![1024, 8]⟩ : Shape) .f32)
  (U : FVec Ideal (⟨3, ![8, 1024, 2048]⟩ : Shape) .f32) (D : FVec Ideal (⟨3, ![8, 2048, 1024]⟩ : Shape) .f32)

/-- A device's tokens are those of its half. -/
theorem block_x (c : Dev nD) (r : Fin 512) (k : Fin 1024) :
    Layout.blockN ⟨2, ![512, 1024]⟩ ⟨2, ![1024, 1024]⟩ (Layout.meshBlock [2, 4, 4] ![[0], []] c) X (by decide) (ix2 r k) = X (ix2 (tok (xc c) r) k) :=
  congrArg X (funext fun a => Fin.ext (by
    match a with
    | 0 => exact (show Layout.meshLin [2, 4, 4] c.val [0] * 512 + r.val = 512 * (xc c).val + r.val by rw [lin_x]; omega)
    | 1 => exact (show 0 * 1024 + k.val = k.val by omega)))
/-- Its router columns are those of its experts. -/
theorem block_r (c : Dev nD) (k : Fin 1024) (l : Fin 4) :
    Layout.blockN ⟨2, ![1024, 4]⟩ ⟨2, ![1024, 8]⟩ (Layout.meshBlock [2, 4, 4] ![[], [0]] c) R (by decide) (ix2 k l) = R (ix2 k (expert (xc c) l)) :=
  congrArg R (funext fun a => Fin.ext (by
    match a with
    | 0 => exact (show 0 * 1024 + k.val = k.val by omega)
    | 1 => exact (show Layout.meshLin [2, 4, 4] c.val [0] * 4 + l.val = 4 * (xc c).val + l.val by rw [lin_x]; omega)))
/-- Its weights are those of its experts. -/
theorem block_u (c : Dev nD) (l : Fin 4) (k : Fin 1024) (f : Fin 2048) :
    Layout.blockN ⟨3, ![4, 1024, 2048]⟩ ⟨3, ![8, 1024, 2048]⟩ (Layout.meshBlock [2, 4, 4] ![[0], [], []] c) U (by decide) (ix3 l k f) = U (ix3 (expert (xc c) l) k f) :=
  congrArg U (funext fun a => Fin.ext (by
    match a with
    | 0 => exact (show Layout.meshLin [2, 4, 4] c.val [0] * 4 + l.val = 4 * (xc c).val + l.val by rw [lin_x]; omega)
    | 1 => exact (show 0 * 1024 + k.val = k.val by omega)
    | 2 => exact (show 0 * 2048 + f.val = f.val by omega)))
/-- Its second matrices are those of its experts. -/
theorem block_d (c : Dev nD) (l : Fin 4) (f : Fin 2048) (k : Fin 1024) :
    Layout.blockN ⟨3, ![4, 2048, 1024]⟩ ⟨3, ![8, 2048, 1024]⟩ (Layout.meshBlock [2, 4, 4] ![[0], [], []] c) D (by decide) (ix3 l f k) = D (ix3 (expert (xc c) l) f k) :=
  congrArg D (funext fun a => Fin.ext (by
    match a with
    | 0 => exact (show Layout.meshLin [2, 4, 4] c.val [0] * 4 + l.val = 4 * (xc c).val + l.val by rw [lin_x]; omega)
    | 1 => exact (show 0 * 2048 + f.val = f.val by omega)
    | 2 => exact (show 0 * 1024 + k.val = k.val by omega)))

variable (m : (ℓ : Loc nD τ sig) → Buf (Elt Ideal) ℓ)
  (hX : ∀ c, argX m c = Layout.blockN ⟨2, ![512, 1024]⟩ ⟨2, ![1024, 1024]⟩ (Layout.meshBlock [2, 4, 4] ![[0], []] c) X)
  (hR : ∀ c, argR m c = Layout.blockN ⟨2, ![1024, 4]⟩ ⟨2, ![1024, 8]⟩ (Layout.meshBlock [2, 4, 4] ![[], [0]] c) R)
  (hU : ∀ c, argU m c = Layout.blockN ⟨3, ![4, 1024, 2048]⟩ ⟨3, ![8, 1024, 2048]⟩ (Layout.meshBlock [2, 4, 4] ![[0], [], []] c) U)
  (hD : ∀ c, argD m c = Layout.blockN ⟨3, ![4, 2048, 1024]⟩ ⟨3, ![8, 2048, 1024]⟩ (Layout.meshBlock [2, 4, 4] ![[0], [], []] c) D)

include hX in
/-- The pair's tokens are all the tokens. -/
theorem pairX_eq (c : Dev nD) (t : Fin 1024) : pairX m c t = fun k => X (ix2 t k) := by
  funext k
  unfold pairX
  rw [hX, block_x, xc_row]
  exact congrArg (fun a => X (ix2 a k)) (Fin.ext (show 512 * (t.val / 512) + t.val % 512 = t.val by omega))

include hR in
/-- The pair's router columns are the whole router. -/
theorem pairR_eq (c : Dev nD) : pairR m c = fun k e => R (ix2 k e) := by
  funext k e
  unfold pairR
  rw [hR, block_r, xc_row, Side.expert_half]

include hX hR hU hD in
/-- What a device's expert adds to a token is the share of that expert of the whole layer. -/
theorem adds_eq (c : Dev nD) (t d : Fin 1024) (l : Fin 4) :
    adds m c t d l = share (gate (fun k => X (ix2 t k)) (fun k e => R (ix2 k e))) (expert (xc c) l)
      (ffn (fun k => X (ix2 t k)) (fun k f => U (ix3 (expert (xc c) l) k f)) (fun f => D (ix3 (expert (xc c) l) f d))) := by
  unfold adds
  rw [pairX_eq X m hX, pairR_eq R m hR, hU, hD]
  simp only [block_u, block_d]

include hX hR hU hD in
/-- What a device ends with, at a token of its half and a column, is the reference's result there. -/
theorem comb_at (c : Dev nD) (r : Fin 512) (d : Fin 1024) :
    (comb (vals m) c : FVec Ideal S512x1024 .f32) (ix2 r d) = Ref.out X R U D (ix2 (tok (xc c) r) d) := by
  rw [comb_apply, Ref.out_apply]
  simp only [adds_eq X R U D m hX hR hU hD]
  exact sum_halves (fun e => share (gate (fun k => X (ix2 (tok (xc c) r) k)) (fun k e => R (ix2 k e))) e
    (ffn (fun k => X (ix2 (tok (xc c) r) k)) (fun k f => U (ix3 e k f)) (fun f => D (ix3 e f d)))) (xc c) (xc (pr c)) (xc_pr_ne c).symm

include hX hR hU hD in
/-- What a device ends with is its half of the reference's result. -/
theorem comb_eq (c : Dev nD) :
    (comb (vals m) c : FVec Ideal S512x1024 .f32)
      = Layout.blockN ⟨2, ![512, 1024]⟩ ⟨2, ![1024, 1024]⟩ (Layout.meshBlock [2, 4, 4] ![[0], []] c) (Ref.out X R U D) := by
  funext j
  rw [eq_ix2 j]
  exact (comb_at X R U D m hX hR hU hD c (j 0) (j 1)).trans (block_x _ c (j 0) (j 1)).symm

end

/-- The idealized kernel computes the idealized reference: from arguments that are the parts of the reference's, every
    execution on the 32 devices leaves on each device its part of the reference's result, and the arguments of both end
    unchanged. -/
theorem algebraic : Cert.algebraic_KernelIdeal_ReferenceIdeal := by
  intro m g m' g' _ h
  refine ⟨Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · exact (θ_run _ _ _).mono (fun r hr c => ⟨(hr.1 c).1.trans (comb_eq _ _ _ _ m (fun c => (h c).1) (fun c => (h c).2.1) (fun c => (h c).2.2.1) (fun c => (h c).2.2.2) c),
      (hr.1 c).2⟩) (run_main (F := Ideal) m g)
  · exact (θ_run _ _ _).mono (fun r hr => hr 0) (Cert.ReferenceIdeal.Value.run (F := Ideal) m' g')

end Cert.Moe

end
-- ==== Proof.lean ====
/-
  The claims about this kernel, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem

/-- The idealized kernel over any float values: every execution on the 32 devices ends, the arguments unchanged, every
    counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run _ _ _).mono (fun _ h => ⟨fun c => ⟨(h.1 c).2.1, (h.1 c).2.2.1, (h.1 c).2.2.2.1, (h.1 c).2.2.2.2⟩, h.2⟩)
    (Cert.Moe.run_main (F := F) m ρ)

/-- The kernel as printed: its text is the idealized program's, so this is the idealized program's run at the bit-exact
    floats. -/
theorem frame_kernel : Cert.quiescent_Kernel := by
  intro m ρ _
  rw [Cert.Moe.same_defs, Cert.Moe.same_main]
  exact frame_any (F := Bits) m ρ

/-- The idealized kernel's own frame: the same run at the ideal floats. -/
theorem frame_ideal : Cert.quiescent_KernelIdeal := fun m ρ _ => frame_any (F := Ideal) m ρ

/-- The reference ends with its arguments unchanged; it declares no counter. -/
theorem frame_reference : Cert.quiescent_ReferenceIdeal := fun m ρ _ =>
  (θ_run Cert.ReferenceIdeal.defs _ _).mono
    (fun r h => ⟨fun c => ⟨(h c).2.1, (h c).2.2.1, (h c).2.2.2.1, (h c).2.2.2.2⟩, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.Moe.algebraic⟩

end Cert.Proof

end
